-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_in_range [hPre_codes_in_range : Cert.Pre_codes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_codes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_in_range [hPre_codes_in_range : Cert.Pre_codes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_codes_in_range [hKernelIdeal : Cert.KernelIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_codes_in_range [hReferenceIdeal : Cert.ReferenceIdeal.Facts] [hPre_codes_in_range : Cert.Pre_codes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S72x2x1024 Cert.KernelIdeal.S72x1x1024
  ∧ IdealRules.bf16_pair.Statement Cert.KernelIdeal.S16x1024 Cert.KernelIdeal.S8x1024
  ∧ IdealRules.bf16_pair.Statement Cert.KernelIdeal.S8x2x1024 Cert.KernelIdeal.S8x1x1024
  ∧ IdealRules.bf16_pair.Statement Cert.KernelIdeal.S8x2x128 Cert.KernelIdeal.S8x1x128
  ∧ IdealRules.bf16_pair.Statement Cert.KernelIdeal.S16x128 Cert.KernelIdeal.S8x128
  ∧ IdealRules.bf16_pair.PackStatement Cert.KernelIdeal.S8x128
  ∧ IdealRules.bf16_pair.Statement Cert.KernelIdeal.S72x2x1024 Cert.KernelIdeal.S72x1x1024
  ∧ IdealRules.bf16_pair.Statement Cert.KernelIdeal.S144x1024 Cert.KernelIdeal.S72x1024

def algebraic_KernelIdeal_ReferenceIdeal_pre_codes_in_range [hKernelIdeal : Cert.KernelIdeal.Facts] [hReferenceIdeal : Cert.ReferenceIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_codes_in_range : Cert.Pre_codes_in_range.Facts),
    quiescent_Kernel (hKernel := hKernel)
    ∧ quiescent_KernelIdeal (hKernelIdeal := hKernelIdeal)
    ∧ quiescent_KernelIdeal_pre_codes_in_range (hKernelIdeal := hKernelIdeal) (hPre_codes_in_range := hPre_codes_in_range)
    ∧ quiescent_ReferenceIdeal (hReferenceIdeal := hReferenceIdeal)
    ∧ quiescent_ReferenceIdeal_pre_codes_in_range (hReferenceIdeal := hReferenceIdeal) (hPre_codes_in_range := hPre_codes_in_range)
    ∧ preserves_Kernel_KernelIdeal
    ∧ algebraic_KernelIdeal_ReferenceIdeal_pre_codes_in_range (hKernelIdeal := hKernelIdeal) (hReferenceIdeal := hReferenceIdeal) (hPre_codes_in_range := hPre_codes_in_range)
-- ==== Pre_codes_in_range.lean ====
abbrev S3x8192x18 : Shape := ⟨3, ![3, 8192, 18]⟩
abbrev S18x1024x8 : Shape := ⟨3, ![18, 1024, 8]⟩
abbrev S18x8x640 : Shape := ⟨3, ![18, 8, 640]⟩
abbrev S18x640 : Shape := ⟨2, ![18, 640]⟩
abbrev S_ : Shape := ⟨0, ![]⟩

class Facts : Prop where
  bcast_S_S3x8192x18 : S_.BroadcastsInDim S3x8192x18 (![] : Fin 0 → Fin S3x8192x18.rank)

variable [Facts]

def fn {F : FTy → Type} [FloatOps F] (main_arg0 : IVec S3x8192x18 32) (main_arg1 : FVec F S18x1024x8 .bf16) (main_arg2 : FVec F S18x8x640 .fp8e4m3) (main_arg3 : FVec F S18x640 .f32) (main_arg4 : FVec F S18x640 .f32) : IVec S3x8192x18 1 :=
  let main_c : IVec S_ 32 := constantI S_ 32 4294966272#32
  let main_v0 : IVec S3x8192x18 32 := broadcastInDim S3x8192x18 ![] bcast_S_S3x8192x18 main_c
  let main_v1 : IVec S3x8192x18 1 := cmpi .sge main_arg0 main_v0
  let main_c_0 : IVec S_ 32 := constantI S_ 32 1024#32
  let main_v2 : IVec S3x8192x18 32 := broadcastInDim S3x8192x18 ![] bcast_S_S3x8192x18 main_c_0
  let main_v3 : IVec S3x8192x18 1 := cmpi .slt main_arg0 main_v2
  let main_v4 : IVec S3x8192x18 1 := andi main_v1 main_v3
  main_v4
-- ==== Kernel.lean ====
abbrev S3x8192x18 : Shape := ⟨3, ![3, 8192, 18]⟩
abbrev S18x1024x8 : Shape := ⟨3, ![18, 1024, 8]⟩
abbrev S18x8x640 : Shape := ⟨3, ![18, 8, 640]⟩
abbrev S18x640 : Shape := ⟨2, ![18, 640]⟩
abbrev S3x18x8192 : Shape := ⟨3, ![3, 18, 8192]⟩
abbrev S18x8x1024 : Shape := ⟨3, ![18, 8, 1024]⟩
abbrev S3x8192x1280 : Shape := ⟨3, ![3, 8192, 1280]⟩
abbrev S1x18x1024 : Shape := ⟨3, ![1, 18, 1024]⟩
abbrev S1x1024x1280 : Shape := ⟨3, ![1, 1024, 1280]⟩
abbrev S72x1024 : Shape := ⟨2, ![72, 1024]⟩
abbrev S144x1280 : Shape := ⟨2, ![144, 1280]⟩
abbrev S1x1280 : Shape := ⟨2, ![1, 1280]⟩
abbrev S8x640 : Shape := ⟨2, ![8, 640]⟩
abbrev S1x640 : Shape := ⟨2, ![1, 640]⟩
abbrev S1x8x640 : Shape := ⟨3, ![1, 8, 640]⟩
abbrev S8x1280 : Shape := ⟨2, ![8, 1280]⟩
abbrev S16x1280 : Shape := ⟨2, ![16, 1280]⟩
abbrev S9x640 : Shape := ⟨2, ![9, 640]⟩
abbrev S640 : Shape := ⟨1, ![640]⟩
abbrev S1x8x1024 : Shape := ⟨3, ![1, 8, 1024]⟩
abbrev S8x1024 : Shape := ⟨2, ![8, 1024]⟩
abbrev S16x1024 : Shape := ⟨2, ![16, 1024]⟩
abbrev S8x128 : Shape := ⟨2, ![8, 128]⟩
abbrev S1x1x128 : Shape := ⟨3, ![1, 1, 128]⟩
abbrev S1x128 : Shape := ⟨2, ![1, 128]⟩
abbrev S8x128x1 : Shape := ⟨3, ![8, 128, 1]⟩
abbrev S144x1024 : Shape := ⟨2, ![144, 1024]⟩
abbrev S1024x1280 : Shape := ⟨2, ![1024, 1280]⟩

abbrev nBuf : Space → Nat
  | .hbm => 8
  | .vmem => 12
  | .smem => 0
  | _ => 0

abbrev bufTy : (tb : Table) → Fin (tcTables nBuf tb) → BufTy
  | .hbm, ⟨0, _⟩ => ⟨S3x8192x18, .i32⟩
  | .hbm, ⟨1, _⟩ => ⟨S18x1024x8, .bf16⟩
  | .hbm, ⟨2, _⟩ => ⟨S18x8x640, .fp8e4m3⟩
  | .hbm, ⟨3, _⟩ => ⟨S18x640, .f32⟩
  | .hbm, ⟨4, _⟩ => ⟨S18x640, .f32⟩
  | .hbm, ⟨5, _⟩ => ⟨S3x18x8192, .i32⟩
  | .hbm, ⟨6, _⟩ => ⟨S18x8x1024, .bf16⟩
  | .hbm, ⟨7, _⟩ => ⟨S3x8192x1280, .bf16⟩
  | .local _ .vmem, ⟨0, _⟩ => ⟨S1x18x1024, .i32⟩
  | .local _ .vmem, ⟨1, _⟩ => ⟨S1x18x1024, .i32⟩
  | .local _ .vmem, ⟨2, _⟩ => ⟨S18x8x1024, .bf16⟩
  | .local _ .vmem, ⟨3, _⟩ => ⟨S18x8x640, .fp8e4m3⟩
  | .local _ .vmem, ⟨4, _⟩ => ⟨S18x640, .f32⟩
  | .local _ .vmem, ⟨5, _⟩ => ⟨S18x640, .f32⟩
  | .local _ .vmem, ⟨6, _⟩ => ⟨S1x1024x1280, .bf16⟩
  | .local _ .vmem, ⟨7, _⟩ => ⟨S1x1024x1280, .bf16⟩
  | .local _ .vmem, ⟨8, _⟩ => ⟨S72x1024, .i32⟩
  | .local _ .vmem, ⟨9, _⟩ => ⟨S144x1280, .bf16⟩
  | .local _ .vmem, ⟨10, _⟩ => ⟨S1x1280, .f32⟩
  | .local _ .vmem, ⟨11, _⟩ => ⟨S72x1024, .i32⟩
  | _, _ => ⟨S3x8192x18, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [BitOps F]

abbrev grid0 : Pipeline.Grid := ⟨2, ![3, 8], ![false, false]⟩

@[reducible] def k0_t1_loop : Scf.Loop 32 :=
  let c0_i32_2 : BitVec 32 := 0#32
  let c8_i32 : BitVec 32 := 8#32
  let v6 : BitVec 32 := Scalar.addi c0_i32_2 c8_i32
  let c1_i32 : BitVec 32 := 1#32
  ⟨c0_i32_2, v6, c1_i32⟩
def k0_mult1 (k0_t1 : Fin k0_t1_loop.trips) : BitVec 32 :=
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  v20
def k0_off1 (k0_t1 : Fin k0_t1_loop.trips) : Fin 3 → Nat :=
  let c0_14 : Index := 0#32
  let c0_15 : Index := 0#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v22 : Index := Scalar.indexCast v21
  ![0, 0, v22.toNat]
def k0_off2 (k0_t1 : Fin k0_t1_loop.trips) : Fin 3 → Nat :=
  let c0_16 : Index := 0#32
  let c1 : Index := 1#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v27 : Index := Scalar.indexCast v21
  ![0, 1, v27.toNat]
def k0_off3 (k0_t1 : Fin k0_t1_loop.trips) : Fin 2 → Nat :=
  let c0_44 : Index := 0#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v168 : Index := Scalar.indexCast v21
  ![0, v168.toNat]
def k0_off4 (k0_t1 : Fin k0_t1_loop.trips) : Fin 3 → Nat :=
  let c0_45 : Index := 0#32
  let c2 : Index := 2#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v172 : Index := Scalar.indexCast v21
  ![0, 2, v172.toNat]
def k0_off5 (k0_t1 : Fin k0_t1_loop.trips) : Fin 3 → Nat :=
  let c0_46 : Index := 0#32
  let c3 : Index := 3#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v177 : Index := Scalar.indexCast v21
  ![0, 3, v177.toNat]
def k0_off6 (k0_t1 : Fin k0_t1_loop.trips) : Fin 2 → Nat :=
  let c8_86 : Index := 8#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v318 : Index := Scalar.indexCast v21
  ![8, v318.toNat]
def k0_off7 (k0_t1 : Fin k0_t1_loop.trips) : Fin 3 → Nat :=
  let c0_87 : Index := 0#32
  let c4 : Index := 4#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v322 : Index := Scalar.indexCast v21
  ![0, 4, v322.toNat]
def k0_off8 (k0_t1 : Fin k0_t1_loop.trips) : Fin 3 → Nat :=
  let c0_88 : Index := 0#32
  let c5 : Index := 5#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v327 : Index := Scalar.indexCast v21
  ![0, 5, v327.toNat]
def k0_off9 (k0_t1 : Fin k0_t1_loop.trips) : Fin 2 → Nat :=
  let c16_128 : Index := 16#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v468 : Index := Scalar.indexCast v21
  ![16, v468.toNat]
def k0_off10 (k0_t1 : Fin k0_t1_loop.trips) : Fin 3 → Nat :=
  let c0_129 : Index := 0#32
  let c6 : Index := 6#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v472 : Index := Scalar.indexCast v21
  ![0, 6, v472.toNat]
def k0_off11 (k0_t1 : Fin k0_t1_loop.trips) : Fin 3 → Nat :=
  let c0_130 : Index := 0#32
  let c7 : Index := 7#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v477 : Index := Scalar.indexCast v21
  ![0, 7, v477.toNat]
def k0_off12 (k0_t1 : Fin k0_t1_loop.trips) : Fin 2 → Nat :=
  let c24_170 : Index := 24#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v618 : Index := Scalar.indexCast v21
  ![24, v618.toNat]
def k0_off13 (k0_t1 : Fin k0_t1_loop.trips) : Fin 3 → Nat :=
  let c0_171 : Index := 0#32
  let c8_172 : Index := 8#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v622 : Index := Scalar.indexCast v21
  ![0, 8, v622.toNat]
def k0_off14 (k0_t1 : Fin k0_t1_loop.trips) : Fin 3 → Nat :=
  let c0_173 : Index := 0#32
  let c9 : Index := 9#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v627 : Index := Scalar.indexCast v21
  ![0, 9, v627.toNat]
def k0_off15 (k0_t1 : Fin k0_t1_loop.trips) : Fin 2 → Nat :=
  let c32_213 : Index := 32#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v768 : Index := Scalar.indexCast v21
  ![32, v768.toNat]
def k0_off16 (k0_t1 : Fin k0_t1_loop.trips) : Fin 3 → Nat :=
  let c0_214 : Index := 0#32
  let c10 : Index := 10#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v772 : Index := Scalar.indexCast v21
  ![0, 10, v772.toNat]
def k0_off17 (k0_t1 : Fin k0_t1_loop.trips) : Fin 3 → Nat :=
  let c0_215 : Index := 0#32
  let c11 : Index := 11#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v777 : Index := Scalar.indexCast v21
  ![0, 11, v777.toNat]
def k0_off18 (k0_t1 : Fin k0_t1_loop.trips) : Fin 2 → Nat :=
  let c40_255 : Index := 40#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v918 : Index := Scalar.indexCast v21
  ![40, v918.toNat]
def k0_off19 (k0_t1 : Fin k0_t1_loop.trips) : Fin 3 → Nat :=
  let c0_256 : Index := 0#32
  let c12 : Index := 12#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v922 : Index := Scalar.indexCast v21
  ![0, 12, v922.toNat]
def k0_off20 (k0_t1 : Fin k0_t1_loop.trips) : Fin 3 → Nat :=
  let c0_257 : Index := 0#32
  let c13 : Index := 13#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v927 : Index := Scalar.indexCast v21
  ![0, 13, v927.toNat]
def k0_off21 (k0_t1 : Fin k0_t1_loop.trips) : Fin 2 → Nat :=
  let c48_297 : Index := 48#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v1068 : Index := Scalar.indexCast v21
  ![48, v1068.toNat]
def k0_off22 (k0_t1 : Fin k0_t1_loop.trips) : Fin 3 → Nat :=
  let c0_298 : Index := 0#32
  let c14 : Index := 14#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v1072 : Index := Scalar.indexCast v21
  ![0, 14, v1072.toNat]
def k0_off23 (k0_t1 : Fin k0_t1_loop.trips) : Fin 3 → Nat :=
  let c0_299 : Index := 0#32
  let c15 : Index := 15#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v1077 : Index := Scalar.indexCast v21
  ![0, 15, v1077.toNat]
def k0_off24 (k0_t1 : Fin k0_t1_loop.trips) : Fin 2 → Nat :=
  let c56_339 : Index := 56#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v1218 : Index := Scalar.indexCast v21
  ![56, v1218.toNat]
def k0_off25 (k0_t1 : Fin k0_t1_loop.trips) : Fin 3 → Nat :=
  let c0_340 : Index := 0#32
  let c16_341 : Index := 16#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v1222 : Index := Scalar.indexCast v21
  ![0, 16, v1222.toNat]
def k0_off26 (k0_t1 : Fin k0_t1_loop.trips) : Fin 3 → Nat :=
  let c0_342 : Index := 0#32
  let c17 : Index := 17#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v1227 : Index := Scalar.indexCast v21
  ![0, 17, v1227.toNat]
def k0_off27 (k0_t1 : Fin k0_t1_loop.trips) : Fin 2 → Nat :=
  let c64_382 : Index := 64#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v1368 : Index := Scalar.indexCast v21
  ![64, v1368.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x18x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S18x8x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S18x8x640 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S18x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S18x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
abbrev S3x8192x18 : Shape := ⟨3, ![3, 8192, 18]⟩
abbrev S18x1024x8 : Shape := ⟨3, ![18, 1024, 8]⟩
abbrev S18x8x640 : Shape := ⟨3, ![18, 8, 640]⟩
abbrev S18x640 : Shape := ⟨2, ![18, 640]⟩
abbrev S3x18x8192 : Shape := ⟨3, ![3, 18, 8192]⟩
abbrev S18x8x1024 : Shape := ⟨3, ![18, 8, 1024]⟩
abbrev S3x8192x1280 : Shape := ⟨3, ![3, 8192, 1280]⟩
abbrev S1x18x1024 : Shape := ⟨3, ![1, 18, 1024]⟩
abbrev S1x1024x1280 : Shape := ⟨3, ![1, 1024, 1280]⟩
abbrev S72x1024 : Shape := ⟨2, ![72, 1024]⟩
abbrev S72x2x1024 : Shape := ⟨3, ![72, 2, 1024]⟩
abbrev S72x1x1024 : Shape := ⟨3, ![72, 1, 1024]⟩
abbrev S144x1280 : Shape := ⟨2, ![144, 1280]⟩
abbrev S1x1280 : Shape := ⟨2, ![1, 1280]⟩
abbrev S8x640 : Shape := ⟨2, ![8, 640]⟩
abbrev S1x640 : Shape := ⟨2, ![1, 640]⟩
abbrev S1x8x640 : Shape := ⟨3, ![1, 8, 640]⟩
abbrev S8x1280 : Shape := ⟨2, ![8, 1280]⟩
abbrev S16x1280 : Shape := ⟨2, ![16, 1280]⟩
abbrev S9x640 : Shape := ⟨2, ![9, 640]⟩
abbrev S640 : Shape := ⟨1, ![640]⟩
abbrev S1x8x1024 : Shape := ⟨3, ![1, 8, 1024]⟩
abbrev S8x1024 : Shape := ⟨2, ![8, 1024]⟩
abbrev S16x1024 : Shape := ⟨2, ![16, 1024]⟩
abbrev S8x2x1024 : Shape := ⟨3, ![8, 2, 1024]⟩
abbrev S8x1x1024 : Shape := ⟨3, ![8, 1, 1024]⟩
abbrev S8x128 : Shape := ⟨2, ![8, 128]⟩
abbrev S1x1x128 : Shape := ⟨3, ![1, 1, 128]⟩
abbrev S1x128 : Shape := ⟨2, ![1, 128]⟩
abbrev S8x2x128 : Shape := ⟨3, ![8, 2, 128]⟩
abbrev S8x1x128 : Shape := ⟨3, ![8, 1, 128]⟩
abbrev S16x128 : Shape := ⟨2, ![16, 128]⟩
abbrev S8x128x1 : Shape := ⟨3, ![8, 128, 1]⟩
abbrev S144x1024 : Shape := ⟨2, ![144, 1024]⟩
abbrev S1024x1280 : Shape := ⟨2, ![1024, 1280]⟩

abbrev nBuf : Space → Nat
  | .hbm => 8
  | .vmem => 12
  | .smem => 0
  | _ => 0

abbrev bufTy : (tb : Table) → Fin (tcTables nBuf tb) → BufTy
  | .hbm, ⟨0, _⟩ => ⟨S3x8192x18, .i32⟩
  | .hbm, ⟨1, _⟩ => ⟨S18x1024x8, .bf16⟩
  | .hbm, ⟨2, _⟩ => ⟨S18x8x640, .fp8e4m3⟩
  | .hbm, ⟨3, _⟩ => ⟨S18x640, .f32⟩
  | .hbm, ⟨4, _⟩ => ⟨S18x640, .f32⟩
  | .hbm, ⟨5, _⟩ => ⟨S3x18x8192, .i32⟩
  | .hbm, ⟨6, _⟩ => ⟨S18x8x1024, .bf16⟩
  | .hbm, ⟨7, _⟩ => ⟨S3x8192x1280, .bf16⟩
  | .local _ .vmem, ⟨0, _⟩ => ⟨S1x18x1024, .i32⟩
  | .local _ .vmem, ⟨1, _⟩ => ⟨S1x18x1024, .i32⟩
  | .local _ .vmem, ⟨2, _⟩ => ⟨S18x8x1024, .bf16⟩
  | .local _ .vmem, ⟨3, _⟩ => ⟨S18x8x640, .fp8e4m3⟩
  | .local _ .vmem, ⟨4, _⟩ => ⟨S18x640, .f32⟩
  | .local _ .vmem, ⟨5, _⟩ => ⟨S18x640, .f32⟩
  | .local _ .vmem, ⟨6, _⟩ => ⟨S1x1024x1280, .bf16⟩
  | .local _ .vmem, ⟨7, _⟩ => ⟨S1x1024x1280, .bf16⟩
  | .local _ .vmem, ⟨8, _⟩ => ⟨S72x2x1024, .bf16⟩
  | .local _ .vmem, ⟨9, _⟩ => ⟨S144x1280, .bf16⟩
  | .local _ .vmem, ⟨10, _⟩ => ⟨S1x1280, .f32⟩
  | .local _ .vmem, ⟨11, _⟩ => ⟨S72x2x1024, .bf16⟩
  | _, _ => ⟨S3x8192x18, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![3, 8], ![false, false]⟩

@[reducible] def k0_t1_loop : Scf.Loop 32 :=
  let c0_i32_2 : BitVec 32 := 0#32
  let c8_i32 : BitVec 32 := 8#32
  let v6 : BitVec 32 := Scalar.addi c0_i32_2 c8_i32
  let c1_i32 : BitVec 32 := 1#32
  ⟨c0_i32_2, v6, c1_i32⟩
def k0_mult1 (k0_t1 : Fin k0_t1_loop.trips) : BitVec 32 :=
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  v20
def k0_off1 (k0_t1 : Fin k0_t1_loop.trips) : Fin 3 → Nat :=
  let c0_14 : Index := 0#32
  let c0_15 : Index := 0#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v22 : Index := Scalar.indexCast v21
  ![0, 0, v22.toNat]
def k0_off2 (k0_t1 : Fin k0_t1_loop.trips) : Fin 3 → Nat :=
  let c0_16 : Index := 0#32
  let c1 : Index := 1#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v27 : Index := Scalar.indexCast v21
  ![0, 1, v27.toNat]
def k0_off3 (k0_t1 : Fin k0_t1_loop.trips) : Fin 3 → Nat :=
  let c0_44 : Index := 0#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v168 : Index := Scalar.indexCast v21
  ![0, 0, v168.toNat]
def k0_off4 (k0_t1 : Fin k0_t1_loop.trips) : Fin 3 → Nat :=
  let c0_45 : Index := 0#32
  let c2 : Index := 2#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v172 : Index := Scalar.indexCast v21
  ![0, 2, v172.toNat]
def k0_off5 (k0_t1 : Fin k0_t1_loop.trips) : Fin 3 → Nat :=
  let c0_46 : Index := 0#32
  let c3 : Index := 3#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v177 : Index := Scalar.indexCast v21
  ![0, 3, v177.toNat]
def k0_off6 (k0_t1 : Fin k0_t1_loop.trips) : Fin 3 → Nat :=
  let c8_86 : Index := 8#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v318 : Index := Scalar.indexCast v21
  ![8, 0, v318.toNat]
def k0_off7 (k0_t1 : Fin k0_t1_loop.trips) : Fin 3 → Nat :=
  let c0_87 : Index := 0#32
  let c4 : Index := 4#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v322 : Index := Scalar.indexCast v21
  ![0, 4, v322.toNat]
def k0_off8 (k0_t1 : Fin k0_t1_loop.trips) : Fin 3 → Nat :=
  let c0_88 : Index := 0#32
  let c5 : Index := 5#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v327 : Index := Scalar.indexCast v21
  ![0, 5, v327.toNat]
def k0_off9 (k0_t1 : Fin k0_t1_loop.trips) : Fin 3 → Nat :=
  let c16_128 : Index := 16#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v468 : Index := Scalar.indexCast v21
  ![16, 0, v468.toNat]
def k0_off10 (k0_t1 : Fin k0_t1_loop.trips) : Fin 3 → Nat :=
  let c0_129 : Index := 0#32
  let c6 : Index := 6#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v472 : Index := Scalar.indexCast v21
  ![0, 6, v472.toNat]
def k0_off11 (k0_t1 : Fin k0_t1_loop.trips) : Fin 3 → Nat :=
  let c0_130 : Index := 0#32
  let c7 : Index := 7#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v477 : Index := Scalar.indexCast v21
  ![0, 7, v477.toNat]
def k0_off12 (k0_t1 : Fin k0_t1_loop.trips) : Fin 3 → Nat :=
  let c24_170 : Index := 24#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v618 : Index := Scalar.indexCast v21
  ![24, 0, v618.toNat]
def k0_off13 (k0_t1 : Fin k0_t1_loop.trips) : Fin 3 → Nat :=
  let c0_171 : Index := 0#32
  let c8_172 : Index := 8#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v622 : Index := Scalar.indexCast v21
  ![0, 8, v622.toNat]
def k0_off14 (k0_t1 : Fin k0_t1_loop.trips) : Fin 3 → Nat :=
  let c0_173 : Index := 0#32
  let c9 : Index := 9#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v627 : Index := Scalar.indexCast v21
  ![0, 9, v627.toNat]
def k0_off15 (k0_t1 : Fin k0_t1_loop.trips) : Fin 3 → Nat :=
  let c32_213 : Index := 32#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v768 : Index := Scalar.indexCast v21
  ![32, 0, v768.toNat]
def k0_off16 (k0_t1 : Fin k0_t1_loop.trips) : Fin 3 → Nat :=
  let c0_214 : Index := 0#32
  let c10 : Index := 10#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v772 : Index := Scalar.indexCast v21
  ![0, 10, v772.toNat]
def k0_off17 (k0_t1 : Fin k0_t1_loop.trips) : Fin 3 → Nat :=
  let c0_215 : Index := 0#32
  let c11 : Index := 11#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v777 : Index := Scalar.indexCast v21
  ![0, 11, v777.toNat]
def k0_off18 (k0_t1 : Fin k0_t1_loop.trips) : Fin 3 → Nat :=
  let c40_255 : Index := 40#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v918 : Index := Scalar.indexCast v21
  ![40, 0, v918.toNat]
def k0_off19 (k0_t1 : Fin k0_t1_loop.trips) : Fin 3 → Nat :=
  let c0_256 : Index := 0#32
  let c12 : Index := 12#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v922 : Index := Scalar.indexCast v21
  ![0, 12, v922.toNat]
def k0_off20 (k0_t1 : Fin k0_t1_loop.trips) : Fin 3 → Nat :=
  let c0_257 : Index := 0#32
  let c13 : Index := 13#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v927 : Index := Scalar.indexCast v21
  ![0, 13, v927.toNat]
def k0_off21 (k0_t1 : Fin k0_t1_loop.trips) : Fin 3 → Nat :=
  let c48_297 : Index := 48#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v1068 : Index := Scalar.indexCast v21
  ![48, 0, v1068.toNat]
def k0_off22 (k0_t1 : Fin k0_t1_loop.trips) : Fin 3 → Nat :=
  let c0_298 : Index := 0#32
  let c14 : Index := 14#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v1072 : Index := Scalar.indexCast v21
  ![0, 14, v1072.toNat]
def k0_off23 (k0_t1 : Fin k0_t1_loop.trips) : Fin 3 → Nat :=
  let c0_299 : Index := 0#32
  let c15 : Index := 15#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v1077 : Index := Scalar.indexCast v21
  ![0, 15, v1077.toNat]
def k0_off24 (k0_t1 : Fin k0_t1_loop.trips) : Fin 3 → Nat :=
  let c56_339 : Index := 56#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v1218 : Index := Scalar.indexCast v21
  ![56, 0, v1218.toNat]
def k0_off25 (k0_t1 : Fin k0_t1_loop.trips) : Fin 3 → Nat :=
  let c0_340 : Index := 0#32
  let c16_341 : Index := 16#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v1222 : Index := Scalar.indexCast v21
  ![0, 16, v1222.toNat]
def k0_off26 (k0_t1 : Fin k0_t1_loop.trips) : Fin 3 → Nat :=
  let c0_342 : Index := 0#32
  let c17 : Index := 17#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v1227 : Index := Scalar.indexCast v21
  ![0, 17, v1227.toNat]
def k0_off27 (k0_t1 : Fin k0_t1_loop.trips) : Fin 3 → Nat :=
  let c64_382 : Index := 64#32
  let c0_i32_13 : BitVec 32 := 0#32
  let c0_i32_2 : BitVec 32 := 0#32
  let c1_i32 : BitVec 32 := 1#32
  let arg12 : BitVec 32 := Scf.iv c0_i32_2 c1_i32 k0_t1
  let c1_i32_12 : BitVec 32 := 1#32
  let v18 : BitVec 32 := Scalar.muli arg12 c1_i32_12
  let v19 : BitVec 32 := Scalar.addi c0_i32_13 v18
  let c128_i32 : BitVec 32 := 128#32
  let v20 : BitVec 32 := Scalar.muli v19 c128_i32
  let v21 : BitVec 32 := v20
  let v1368 : Index := Scalar.indexCast v21
  ![64, 0, v1368.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x18x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S18x8x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S18x8x640 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S18x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S18x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S3x8192x18 : Shape := ⟨3, ![3, 8192, 18]⟩
abbrev S18x1024x8 : Shape := ⟨3, ![18, 1024, 8]⟩
abbrev S18x8x640 : Shape := ⟨3, ![18, 8, 640]⟩
abbrev S18x640 : Shape := ⟨2, ![18, 640]⟩
abbrev S18 : Shape := ⟨1, ![18]⟩
abbrev S1x1x18 : Shape := ⟨3, ![1, 1, 18]⟩
abbrev S_ : Shape := ⟨0, ![]⟩
abbrev S3x8192x18x1 : Shape := ⟨4, ![3, 8192, 18, 1]⟩
abbrev S3x8192x18x2 : Shape := ⟨4, ![3, 8192, 18, 2]⟩
abbrev S3x8192x18x8 : Shape := ⟨4, ![3, 8192, 18, 8]⟩
abbrev S3x8192x2x72 : Shape := ⟨4, ![3, 8192, 2, 72]⟩
abbrev S18x1x640 : Shape := ⟨3, ![18, 1, 640]⟩
abbrev S2x72x640 : Shape := ⟨3, ![2, 72, 640]⟩
abbrev S2x640x3x8192 : Shape := ⟨4, ![2, 640, 3, 8192]⟩
abbrev S3x8192x2x640 : Shape := ⟨4, ![3, 8192, 2, 640]⟩
abbrev S2x9x640 : Shape := ⟨3, ![2, 9, 640]⟩
abbrev S2x640 : Shape := ⟨2, ![2, 640]⟩
abbrev S1x1x2x640 : Shape := ⟨4, ![1, 1, 2, 640]⟩
abbrev S3x8192x1280 : Shape := ⟨3, ![3, 8192, 1280]⟩

abbrev nBuf : Space → Nat
  | .hbm => 39
  | .vmem => 3
  | .smem => 0
  | _ => 0

abbrev bufTy : (tb : Table) → Fin (tcTables nBuf tb) → BufTy
  | .hbm, ⟨0, _⟩ => ⟨S3x8192x18, .i32⟩
  | .hbm, ⟨1, _⟩ => ⟨S18x1024x8, .bf16⟩
  | .hbm, ⟨2, _⟩ => ⟨S18x8x640, .fp8e4m3⟩
  | .hbm, ⟨3, _⟩ => ⟨S18x640, .f32⟩
  | .hbm, ⟨4, _⟩ => ⟨S18x640, .f32⟩
  | .hbm, ⟨5, _⟩ => ⟨S18, .i32⟩
  | .hbm, ⟨6, _⟩ => ⟨S1x1x18, .i32⟩
  | .hbm, ⟨7, _⟩ => ⟨S_, .i32⟩
  | .hbm, ⟨8, _⟩ => ⟨S1x1x18, .i32⟩
  | .hbm, ⟨9, _⟩ => ⟨S1x1x18, .i1⟩
  | .hbm, ⟨10, _⟩ => ⟨S_, .i32⟩
  | .hbm, ⟨11, _⟩ => ⟨S1x1x18, .i32⟩
  | .hbm, ⟨12, _⟩ => ⟨S1x1x18, .i32⟩
  | .hbm, ⟨13, _⟩ => ⟨S1x1x18, .i32⟩
  | .hbm, ⟨14, _⟩ => ⟨S_, .i32⟩
  | .hbm, ⟨15, _⟩ => ⟨S3x8192x18, .i32⟩
  | .hbm, ⟨16, _⟩ => ⟨S3x8192x18, .i1⟩
  | .hbm, ⟨17, _⟩ => ⟨S_, .i32⟩
  | .hbm, ⟨18, _⟩ => ⟨S3x8192x18, .i32⟩
  | .hbm, ⟨19, _⟩ => ⟨S3x8192x18, .i32⟩
  | .hbm, ⟨20, _⟩ => ⟨S3x8192x18, .i32⟩
  | .hbm, ⟨21, _⟩ => ⟨S3x8192x18, .i32⟩
  | .hbm, ⟨22, _⟩ => ⟨S3x8192x18x1, .i32⟩
  | .hbm, ⟨23, _⟩ => ⟨S3x8192x18x1, .i32⟩
  | .hbm, ⟨24, _⟩ => ⟨S3x8192x18x2, .i32⟩
  | .hbm, ⟨25, _⟩ => ⟨S3x8192x18x8, .bf16⟩
  | .hbm, ⟨26, _⟩ => ⟨S3x8192x2x72, .bf16⟩
  | .hbm, ⟨27, _⟩ => ⟨S18x8x640, .bf16⟩
  | .hbm, ⟨28, _⟩ => ⟨S2x72x640, .bf16⟩
  | .hbm, ⟨29, _⟩ => ⟨S2x640x3x8192, .f32⟩
  | .hbm, ⟨30, _⟩ => ⟨S3x8192x2x640, .f32⟩
  | .hbm, ⟨31, _⟩ => ⟨S2x9x640, .f32⟩
  | .hbm, ⟨32, _⟩ => ⟨S_, .f32⟩
  | .hbm, ⟨33, _⟩ => ⟨S2x640, .f32⟩
  | .hbm, ⟨34, _⟩ => ⟨S1x1x2x640, .f32⟩
  | .hbm, ⟨35, _⟩ => ⟨S3x8192x2x640, .f32⟩
  | .hbm, ⟨36, _⟩ => ⟨S3x8192x2x640, .f32⟩
  | .hbm, ⟨37, _⟩ => ⟨S3x8192x1280, .f32⟩
  | .hbm, ⟨38, _⟩ => ⟨S3x8192x1280, .bf16⟩
  | .local _ .vmem, ⟨0, _⟩ => ⟨S18x8x640, .fp8e4m3⟩
  | .local _ .vmem, ⟨1, _⟩ => ⟨S18x640, .f32⟩
  | .local _ .vmem, ⟨2, _⟩ => ⟨S18x8x640, .bf16⟩
  | _, _ => ⟨S3x8192x18, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S18x8x640 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18x8x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Claims.lean ====
/- The frames of the three programs and the kernel's `preserves` claim. -/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import Idealize.ShloMosaic.Lib.Bf16PairInverse

@[expose] public section

noncomputable section

open Idealize.ShloMosaic Idealize.SL.Sem

namespace Cert.Proof

theorem frame_kernel : Cert.quiescent_Kernel := fun m ρ _ => Cert.Kernel.Gen.frame m ρ
theorem frame_kernelIdeal : Cert.quiescent_KernelIdeal := fun m ρ _ => Cert.KernelIdeal.Gen.frame m ρ
theorem frame_referenceIdeal : Cert.quiescent_ReferenceIdeal := fun m ρ _ => Cert.ReferenceIdeal.Gen.frame m ρ

/-- The eight distinct statements of the ledger in order of first appearance: the re-typed word scratches (words [72, 1024]
    as bf16 [72, 2, 1024]), the codebook rows read as words, the words stored into and loaded from the scratches, the two
    gathered halves packed into a word, and the gathered words read back as bf16 rows. -/
theorem preserves : Cert.preserves_Kernel_KernelIdeal :=
  open Cert.KernelIdeal IdealRules.bf16_pair in
  ⟨bufferStatement S72x2x1024 S72x1x1024, statement S16x1024 S8x1024, statement S8x2x1024 S8x1x1024,
    statement S8x2x128 S8x1x128, statement S16x128 S8x128, packStatement S8x128, statement S72x2x1024 S72x1x1024,
    statement S144x1024 S72x1024⟩

end Cert.Proof

end
-- ==== Proof.Gather.lean ====
/-
  One step of the kernel's gather: eight rows of words (a level pair's sixteen table rows), 128 tokens.

  The kernel reads the eight 128-lane pieces of a table row one by one, picks in each the lane named by
  the low seven bits of the token's code, and then selects between the eight candidates by the code's
  bits 7, 8 and 9. `pairBlock` is that step as a function of what it reads; `pairBlock_apply` says what
  it computes: the table entry at the code taken mod 1024.
-/
module
public import proofs.«01_k».proof.Defs
public import proofs.«01_k».proof.Proof.Gen.KernelIdeal.Value
public import Idealize.ShloMosaic.Lib.Pipeline.ValueKit
public import Idealize.ShloMosaic.Lib.Claim
public import Idealize.ShloMosaic.Lib.Bf16PairInverse
public import Idealize.ShloMosaic.Lib.Pointwise
public import Mathlib.Data.Nat.Bitwise

@[expose] public section

noncomputable section

namespace Cert.KernelIdeal.Work

open Cert.KernelIdeal Cert.KernelIdeal.Gen Idealize.ShloMosaic Idealize.ShloMosaic.TcCoe Idealize.SL.Sem

/-- The rows of parity `p` of eight words' rows, as the kernel names them. -/
def half (p : Fin 2) (t : Vec Ideal S8x2x128 .bf16) : FVec Ideal S8x128 .bf16 :=
  shapeCast S8x128 (rowsOfParity p S8x1x128 t bitcasts_S8x2x128_w16_S8x1x128_w32) shapeCasts_S8x1x128_S8x128

/-- The lane gather of one half, moved to f32 and back. -/
def lanes (lane : IVec S8x128 32) (x : FVec Ideal S8x128 .bf16) : FVec Ideal S8x128 .bf16 :=
  truncf .bf16 (dynamicGather 1 (extf .f32 x)
    (shapeCast S8x128 (shapeCast S8x128x1 lane shapeCasts_S8x128_S8x128x1) shapeCasts_S8x128x1_S8x128)) bitsLt_bf16_f32

/-- Whether bit `b` (given as its weight) of the code is set. -/
def bitOf (idx : IVec S8x128 32) (b : BitVec 32) : IVec S8x128 1 :=
  cmpi .ne (andi idx (broadcast S8x128 b)) (broadcast S8x128 0#32)

/-- The three levels of selects between the eight candidates. -/
def pick (idx : IVec S8x128 32) (g0 g1 g2 g3 g4 g5 g6 g7 : FVec Ideal S8x128 .bf16) : FVec Ideal S8x128 .bf16 :=
  select (bitOf idx 512#32)
    (select (bitOf idx 256#32) (select (bitOf idx 128#32) g7 g6) (select (bitOf idx 128#32) g5 g4))
    (select (bitOf idx 256#32) (select (bitOf idx 128#32) g3 g2) (select (bitOf idx 128#32) g1 g0))

/-- The codes of the two levels of a pair: the first level's on sublanes 0–3, the second's on 4–7. -/
def codesOf (a b : Vec Ideal S1x1x128 .i32) : IVec S8x128 32 :=
  select (cmpi .slt (iota Kind.tc S8x128 32 [0] iota_S8x128_d0_w32) (broadcast S8x128 4#32))
    (broadcastTo S8x128 (shapeCast S1x128 (shapeCast S1x128 a shapeCasts_S1x1x128_S1x128) shapeCasts_S1x128_S1x128) broadcasts_S1x128_S8x128)
    (broadcastTo S8x128 (shapeCast S1x128 (shapeCast S1x128 b shapeCasts_S1x1x128_S1x128) shapeCasts_S1x128_S1x128) broadcasts_S1x128_S8x128)

/-- One half of the step's result. -/
def pairHalf (p : Fin 2) (a b : Vec Ideal S1x1x128 .i32) (t0 t1 t2 t3 t4 t5 t6 t7 : Vec Ideal S8x2x128 .bf16) : FVec Ideal S8x128 .bf16 :=
  pick (codesOf a b)
    (lanes (andi (codesOf a b) (broadcast S8x128 127#32)) (half p t0)) (lanes (andi (codesOf a b) (broadcast S8x128 127#32)) (half p t1))
    (lanes (andi (codesOf a b) (broadcast S8x128 127#32)) (half p t2)) (lanes (andi (codesOf a b) (broadcast S8x128 127#32)) (half p t3))
    (lanes (andi (codesOf a b) (broadcast S8x128 127#32)) (half p t4)) (lanes (andi (codesOf a b) (broadcast S8x128 127#32)) (half p t5))
    (lanes (andi (codesOf a b) (broadcast S8x128 127#32)) (half p t6)) (lanes (andi (codesOf a b) (broadcast S8x128 127#32)) (half p t7))

/-- What one step stores: both halves, interleaved by rows. -/
def pairBlock (a b : Vec Ideal S1x1x128 .i32) (t0 t1 t2 t3 t4 t5 t6 t7 : Vec Ideal S8x2x128 .bf16) : Vec Ideal S8x2x128 .bf16 :=
  interleaveRows S8x2x128 (shapeCast S8x1x128 (pairHalf 0 a b t0 t1 t2 t3 t4 t5 t6 t7) shapeCasts_S8x128_S8x1x128)
    (shapeCast S8x1x128 (pairHalf 1 a b t0 t1 t2 t3 t4 t5 t6 t7) shapeCasts_S8x128_S8x1x128) bitcasts_S8x2x128_w16_S8x1x128_w32

theorem half_apply (p : Fin 2) (t : Vec Ideal S8x2x128 .bf16) (s : Fin 8) (l : Fin 128) :
    half p t (ix2 s l) = t (ix3 s p l) := by
  unfold half
  pointwise

theorem lanes_apply (lane : IVec S8x128 32) (x : FVec Ideal S8x128 .bf16) (s : Fin 8) (l : Fin 128) :
    lanes lane x (ix2 s l) = x (ix2 s ⟨(lane (ix2 s l)).toNat % 128, Nat.mod_lt _ (by norm_num)⟩) := by
  have hl : (shapeCast S8x128 (shapeCast S8x128x1 lane shapeCasts_S8x128_S8x128x1) shapeCasts_S8x128x1_S8x128) (ix2 s l) = lane (ix2 s l) := by
    pointwise
  unfold lanes
  pointwise

theorem codesOf_apply (a b : Vec Ideal S1x1x128 .i32) (s : Fin 8) (l : Fin 128) :
    codesOf a b (ix2 s l) = if s.val < 4 then a (ix3 0 0 l) else b (ix3 0 0 l) := by
  unfold codesOf
  fin_vals s with h <;> pointwise <;> simp [h] <;> rfl

/-- Bit `k` of a word, as a condition on the number it stands for. -/
theorem bit_ne_zero (x : BitVec 32) (k : Nat) (hk : k < 32) :
    (x &&& BitVec.ofNat 32 (2 ^ k)) ≠ 0#32 ↔ x.toNat / 2 ^ k % 2 = 1 := by
  have hlt : 2 ^ k < 2 ^ 32 := Nat.pow_lt_pow_right (by norm_num) hk
  rw [Ne, ← BitVec.toNat_inj, BitVec.toNat_and, BitVec.toNat_ofNat, Nat.mod_eq_of_lt hlt, Nat.and_two_pow,
    Nat.testBit_eq_decide_div_mod_eq]
  have hp : 0 < 2 ^ k := by positivity
  by_cases h : x.toNat / 2 ^ k % 2 = 1 <;> simp [h]

theorem select_bitOf (idx : IVec S8x128 32) (k : Nat) (hk : k < 32) (x y : FVec Ideal S8x128 .bf16) (j : S8x128.Idx) :
    select (bitOf idx (BitVec.ofNat 32 (2 ^ k))) x y j = if (idx j).toNat / 2 ^ k % 2 = 1 then x j else y j := by
  have h := bit_ne_zero (idx j) k hk
  unfold bitOf
  pointwise
  unfold Scalar.select IntOp.cmpi IntOp.andi
  by_cases hz : idx j &&& BitVec.ofNat 32 (2 ^ k) = 0#32
  · rw [if_neg (by simp [hz]), if_neg (by rw [← h]; simp [hz])]
  · have hne : (idx j &&& BitVec.ofNat 32 (2 ^ k) != 0#32) = true := bne_iff_ne.2 hz
    rw [if_pos (h.1 hz)]
    simp only [hne]
    rfl

/-- The selects choose the candidate of the piece that holds entry `code mod 1024`. -/
theorem pick_apply (idx : IVec S8x128 32) (g0 g1 g2 g3 g4 g5 g6 g7 : FVec Ideal S8x128 .bf16) (j : S8x128.Idx)
    (T : Nat → Ideal .bf16)
    (h0 : g0 j = T ((idx j).toNat % 128)) (h1 : g1 j = T (128 + (idx j).toNat % 128))
    (h2 : g2 j = T (256 + (idx j).toNat % 128)) (h3 : g3 j = T (384 + (idx j).toNat % 128))
    (h4 : g4 j = T (512 + (idx j).toNat % 128)) (h5 : g5 j = T (640 + (idx j).toNat % 128))
    (h6 : g6 j = T (768 + (idx j).toNat % 128)) (h7 : g7 j = T (896 + (idx j).toNat % 128)) :
    pick idx g0 g1 g2 g3 g4 g5 g6 g7 j = T ((idx j).toNat % 1024) := by
  have e7 := select_bitOf idx 7 (by norm_num)
  have e8 := select_bitOf idx 8 (by norm_num)
  have e9 := select_bitOf idx 9 (by norm_num)
  norm_num at e7 e8 e9
  unfold pick
  rw [e9, e8, e8, e7, e7, e7, e7, h0, h1, h2, h3, h4, h5, h6, h7]
  generalize (idx j).toNat = v
  split_ifs <;> exact congrArg T (by omega)

theorem low_bits (x : BitVec 32) : (x &&& 127#32).toNat % 128 = x.toNat % 128 := by
  rw [BitVec.toNat_and]
  have : (127#32 : BitVec 32).toNat = 2 ^ 7 - 1 := by decide
  rw [this, Nat.and_two_pow_sub_one_eq_mod]
  norm_num

/-- One step: sublane `s`, half `p`, token `l` gets its table row's entry at the code mod 1024. -/
theorem pairBlock_apply (a b : Vec Ideal S1x1x128 .i32) (t0 t1 t2 t3 t4 t5 t6 t7 : Vec Ideal S8x2x128 .bf16)
    (s : Fin 8) (p : Fin 2) (l : Fin 128) (T : Nat → Ideal .bf16)
    (h0 : ∀ j : Fin 128, t0 (ix3 s p j) = T j.val) (h1 : ∀ j : Fin 128, t1 (ix3 s p j) = T (128 + j.val))
    (h2 : ∀ j : Fin 128, t2 (ix3 s p j) = T (256 + j.val)) (h3 : ∀ j : Fin 128, t3 (ix3 s p j) = T (384 + j.val))
    (h4 : ∀ j : Fin 128, t4 (ix3 s p j) = T (512 + j.val)) (h5 : ∀ j : Fin 128, t5 (ix3 s p j) = T (640 + j.val))
    (h6 : ∀ j : Fin 128, t6 (ix3 s p j) = T (768 + j.val)) (h7 : ∀ j : Fin 128, t7 (ix3 s p j) = T (896 + j.val)) :
    pairBlock a b t0 t1 t2 t3 t4 t5 t6 t7 (ix3 s p l)
      = T ((if s.val < 4 then a (ix3 0 0 l) else b (ix3 0 0 l) : BitVec 32).toNat % 1024) := by
  have hlow : (andi (codesOf a b) (broadcast S8x128 127#32) (ix2 s l)).toNat % 128 = (codesOf a b (ix2 s l)).toNat % 128 :=
    low_bits _
  have hhalf : ∀ q : Fin 2, p = q → pairHalf q a b t0 t1 t2 t3 t4 t5 t6 t7 (ix2 s l)
      = T ((codesOf a b (ix2 s l)).toNat % 1024) := by
    rintro q rfl
    unfold pairHalf
    apply pick_apply <;> rw [lanes_apply, half_apply]
    · simp only [h0, hlow]
    · simp only [h1, hlow]
    · simp only [h2, hlow]
    · simp only [h3, hlow]
    · simp only [h4, hlow]
    · simp only [h5, hlow]
    · simp only [h6, hlow]
    · simp only [h7, hlow]
  rw [← codesOf_apply]
  have hr : ∀ q : Fin 2, p = q → pairBlock a b t0 t1 t2 t3 t4 t5 t6 t7 (ix3 s p l)
      = pairHalf q a b t0 t1 t2 t3 t4 t5 t6 t7 (ix2 s l) := by
    rintro q rfl
    have e : pairBlock a b t0 t1 t2 t3 t4 t5 t6 t7 (ix3 s p l)
        = rowsOfParity p S8x1x128 (pairBlock a b t0 t1 t2 t3 t4 t5 t6 t7) bitcasts_S8x2x128_w16_S8x1x128_w32 (ix3 s 0 l) := by
      unfold rowsOfParity
      congr 1
      idx_ext
    rw [e]
    unfold pairBlock
    rw [rowsOfParity_interleaveRows]
    fin_cases p
    · simp only [Fin.zero_eta, ↓reduceIte]
      pointwise
    · simp only [Fin.mk_one, one_ne_zero, ↓reduceIte]
      pointwise
  rw [hr p rfl, hhalf p rfl]

end Cert.KernelIdeal.Work
-- ==== Proof.Trip.lean ====
/-
  One trip of the gather loop: the nine stores of 128 tokens.
-/
module
public import proofs.«01_k».proof.Proof.Gather
public import Idealize.ShloMosaic.Lib.Pipeline.ReadBack

@[expose] public section

noncomputable section

namespace Cert.KernelIdeal.Work

open Cert.KernelIdeal Cert.KernelIdeal.Gen Idealize.ShloMosaic Idealize.ShloMosaic.TcCoe Idealize.SL.Sem

/-- The gathered rows: word row `r`, half `h`, token `n` is the table's entry of that row at the code
    (mod 1024) that level `r / 4` has for token `n`. -/
def rowsOf (x0 : Vec Ideal S1x18x1024 .i32) (T : Vec Ideal S72x2x1024 .bf16) : Vec Ideal S72x2x1024 .bf16 :=
  fun i => T (ix3 (n0 := 72) (n1 := 2) (n2 := 1024) (i 0) (i 1)
    ⟨(x0 (ix3 (n0 := 1) (n1 := 18) (n2 := 1024) 0 ⟨(i 0).val / 4, by have h : (i 0).val < 72 := (i 0).isLt; omega⟩ (i 2)) : BitVec 32).toNat % 1024,
      Nat.mod_lt _ (by norm_num)⟩)

/-- One store of a trip is a block of the gathered rows. -/
theorem pair_piece (x0 : Vec Ideal S1x18x1024 .i32) (T : Vec Ideal S72x2x1024 .bf16) (q k : Nat) (hq : q < 9) (hk : k < 8)
    (a b : Vec Ideal S1x1x128 .i32) (t0 t1 t2 t3 t4 t5 t6 t7 : Vec Ideal S8x2x128 .bf16)
    (ha : ∀ l : Fin 128, a (ix3 0 0 l) = x0 (ix3 (n0 := 1) (n1 := 18) (n2 := 1024) 0 ⟨2 * q, by omega⟩ ⟨128 * k + l.val, by omega⟩))
    (hb : ∀ l : Fin 128, b (ix3 0 0 l) = x0 (ix3 (n0 := 1) (n1 := 18) (n2 := 1024) 0 ⟨2 * q + 1, by omega⟩ ⟨128 * k + l.val, by omega⟩))
    (h0 : ∀ (s : Fin 8) (p : Fin 2) (j : Fin 128), t0 (ix3 s p j) = T (ix3 ⟨8 * q + s.val, by omega⟩ p ⟨0 + j.val, by omega⟩))
    (h1 : ∀ (s : Fin 8) (p : Fin 2) (j : Fin 128), t1 (ix3 s p j) = T (ix3 ⟨8 * q + s.val, by omega⟩ p ⟨128 + j.val, by omega⟩))
    (h2 : ∀ (s : Fin 8) (p : Fin 2) (j : Fin 128), t2 (ix3 s p j) = T (ix3 ⟨8 * q + s.val, by omega⟩ p ⟨256 + j.val, by omega⟩))
    (h3 : ∀ (s : Fin 8) (p : Fin 2) (j : Fin 128), t3 (ix3 s p j) = T (ix3 ⟨8 * q + s.val, by omega⟩ p ⟨384 + j.val, by omega⟩))
    (h4 : ∀ (s : Fin 8) (p : Fin 2) (j : Fin 128), t4 (ix3 s p j) = T (ix3 ⟨8 * q + s.val, by omega⟩ p ⟨512 + j.val, by omega⟩))
    (h5 : ∀ (s : Fin 8) (p : Fin 2) (j : Fin 128), t5 (ix3 s p j) = T (ix3 ⟨8 * q + s.val, by omega⟩ p ⟨640 + j.val, by omega⟩))
    (h6 : ∀ (s : Fin 8) (p : Fin 2) (j : Fin 128), t6 (ix3 s p j) = T (ix3 ⟨8 * q + s.val, by omega⟩ p ⟨768 + j.val, by omega⟩))
    (h7 : ∀ (s : Fin 8) (p : Fin 2) (j : Fin 128), t7 (ix3 s p j) = T (ix3 ⟨8 * q + s.val, by omega⟩ p ⟨896 + j.val, by omega⟩))
    (y : S8x2x128.Idx) (z : S72x2x1024.Idx) (hz0 : (z 0).val = 8 * q + (y 0).val) (hz1 : (z 1).val = (y 1).val) (hz2 : (z 2).val = 128 * k + (y 2).val) :
    pairBlock a b t0 t1 t2 t3 t4 t5 t6 t7 y = rowsOf x0 T z := by
  obtain ⟨s, p, l, rfl⟩ : ∃ (s : Fin 8) (p : Fin 2) (l : Fin 128), y = ix3 s p l := ⟨y 0, y 1, y 2, eq_ix3 y⟩
  have b0 : 8 * q + s.val < 72 := by clear hz0 hz1 hz2; omega
  have b2 : 128 * k + l.val < 1024 := by clear hz0 hz1 hz2; omega
  have hz : z = ix3 (n0 := 72) (n1 := 2) (n2 := 1024) ⟨8 * q + s.val, b0⟩ p ⟨128 * k + l.val, b2⟩ := by
    rw [eq_ix3 z]
    exact (ix3_inj _ _ _ _ _ _).2 ⟨Fin.ext hz0, Fin.ext hz1, Fin.ext hz2⟩
  subst hz
  rw [pairBlock_apply a b t0 t1 t2 t3 t4 t5 t6 t7 s p l
    (fun n => if h : n < 1024 then T (ix3 (n0 := 72) (n1 := 2) (n2 := 1024) ⟨8 * q + s.val, by omega⟩ p ⟨n, h⟩) else 0)]
  · rw [dif_pos (Nat.mod_lt _ (by norm_num))]
    unfold rowsOf
    simp only [ix3_0, ix3_1, ix3_2]
    congr 1
    refine (ix3_inj _ _ _ _ _ _).2 ⟨rfl, rfl, Fin.ext ?_⟩
    simp only
    congr 2
    by_cases hs : s.val < 4
    · rw [if_pos hs, ha]
      congr 1
      refine (ix3_inj _ _ _ _ _ _).2 ⟨rfl, Fin.ext ?_, rfl⟩
      show 2 * q = (8 * q + s.val) / 4
      omega
    · rw [if_neg hs, hb]
      congr 1
      refine (ix3_inj _ _ _ _ _ _).2 ⟨rfl, Fin.ext ?_, rfl⟩
      show 2 * q + 1 = (8 * q + s.val) / 4
      omega
  all_goals intro j; rw [dif_pos (by omega)]
  · exact (h0 s p j).trans (by simp only [Nat.zero_add])
  · exact h1 s p j
  · exact h2 s p j
  · exact h3 s p j
  · exact h4 s p j
  · exact h5 s p j
  · exact h6 s p j
  · exact h7 s p j

/-- The loop has eight trips. -/
theorem trips_eq : k0_t1_loop.trips = 8 := by decide

/-- Trip `k` handles the tokens from `128 * k` on. -/
theorem chunk_off (k : Fin k0_t1_loop.trips) : (Scalar.indexCast (k0_mult1 k)).toNat = 128 * k.val := by
  revert k
  decide

/-- The codes of one level that a trip loads. -/
theorem load_codes (arg2 : Memref sig .tc .vmem S1x18x1024 .i32) (X : BufTy.Contents (Elt Ideal) arg2.view.ty)
    (off : Fin 3 → Nat) (inb : ∀ a, off a + S1x1x128.size a ≤ S1x18x1024.size a) (L k : Nat) (hL : L < 18) (hk : k < 8)
    (h0 : off 0 = 0) (h1 : off 1 = L) (h2 : off 2 = 128 * k) (l : Fin 128) :
    View.readAt (Elt Ideal) arg2.view (Rect.unit (s := S1x18x1024) off S1x1x128.size inb).toLoadRect X (ix3 (n0 := 1) (n1 := 1) (n2 := 128) 0 0 l)
      = arg2.view.read (Elt Ideal) X (ix3 (n0 := 1) (n1 := 18) (n2 := 1024) 0 ⟨L, hL⟩ ⟨128 * k + l.val, by omega⟩) := by
  rw [View.readAt_apply]
  congr 1
  funext a
  apply Fin.ext
  fin_cases a
  · show off 0 + 1 * 0 = 0
    omega
  · show off 1 + 1 * 0 = L
    omega
  · show off 2 + 1 * l.val = 128 * k + l.val
    omega

/-- The piece of eight table rows that a trip loads. -/
theorem load_table (arg8 : Memref sig .tc .vmem S72x2x1024 .bf16) (X : BufTy.Contents (Elt Ideal) arg8.view.ty)
    (off : Fin 3 → Nat) (inb : ∀ a, off a + S8x2x128.size a ≤ S72x2x1024.size a) (q g : Nat) (hq : q < 9) (hg : g + 128 ≤ 1024)
    (h0 : off 0 = 8 * q) (h1 : off 1 = 0) (h2 : off 2 = g) (s : Fin 8) (p : Fin 2) (j : Fin 128) :
    View.readAt (Elt Ideal) arg8.view (Rect.unit (s := S72x2x1024) off S8x2x128.size inb).toLoadRect X (ix3 (n0 := 8) (n1 := 2) (n2 := 128) s p j)
      = arg8.view.read (Elt Ideal) X (ix3 (n0 := 72) (n1 := 2) (n2 := 1024) ⟨8 * q + s.val, by omega⟩ p ⟨g + j.val, by omega⟩) := by
  rw [View.readAt_apply]
  congr 1
  funext a
  apply Fin.ext
  fin_cases a
  · show off 0 + 1 * s.val = 8 * q + s.val
    omega
  · show off 1 + 1 * p.val = p.val
    omega
  · show off 2 + 1 * j.val = g + j.val
    omega

/-- Store `q` of trip `k`, with the loads it is computed from, is a block of the gathered rows. -/
theorem trip_piece (arg2 : Memref sig .tc .vmem S1x18x1024 .i32) (arg8 : Memref sig .tc .vmem S72x2x1024 .bf16)
    (X2 : BufTy.Contents (Elt Ideal) arg2.view.ty) (X8 : BufTy.Contents (Elt Ideal) arg8.view.ty)
    (q k : Nat) (hq : q < 9) (hk : k < 8) (offa offb offs : Fin 3 → Nat)
    (inba : ∀ a, offa a + S1x1x128.size a ≤ S1x18x1024.size a) (inbb : ∀ a, offb a + S1x1x128.size a ≤ S1x18x1024.size a)
    (inbs : ∀ a, offs a + S8x2x128.size a ≤ S72x2x1024.size a)
    (inb0 : ∀ a, (![8 * q, 0, 0] : Fin 3 → Nat) a + S8x2x128.size a ≤ S72x2x1024.size a)
    (inb1 : ∀ a, (![8 * q, 0, 128] : Fin 3 → Nat) a + S8x2x128.size a ≤ S72x2x1024.size a)
    (inb2 : ∀ a, (![8 * q, 0, 256] : Fin 3 → Nat) a + S8x2x128.size a ≤ S72x2x1024.size a)
    (inb3 : ∀ a, (![8 * q, 0, 384] : Fin 3 → Nat) a + S8x2x128.size a ≤ S72x2x1024.size a)
    (inb4 : ∀ a, (![8 * q, 0, 512] : Fin 3 → Nat) a + S8x2x128.size a ≤ S72x2x1024.size a)
    (inb5 : ∀ a, (![8 * q, 0, 640] : Fin 3 → Nat) a + S8x2x128.size a ≤ S72x2x1024.size a)
    (inb6 : ∀ a, (![8 * q, 0, 768] : Fin 3 → Nat) a + S8x2x128.size a ≤ S72x2x1024.size a)
    (inb7 : ∀ a, (![8 * q, 0, 896] : Fin 3 → Nat) a + S8x2x128.size a ≤ S72x2x1024.size a)
    (ha0 : offa 0 = 0) (ha1 : offa 1 = 2 * q) (ha2 : offa 2 = 128 * k)
    (hb0 : offb 0 = 0) (hb1 : offb 1 = 2 * q + 1) (hb2 : offb 2 = 128 * k)
    (hs0 : offs 0 = 8 * q) (hs1 : offs 1 = 0) (hs2 : offs 2 = 128 * k) (x : S8x2x128.Idx) :
    pairBlock
      (View.readAt (Elt Ideal) arg2.view (Rect.unit (s := S1x18x1024) offa S1x1x128.size inba).toLoadRect X2)
      (View.readAt (Elt Ideal) arg2.view (Rect.unit (s := S1x18x1024) offb S1x1x128.size inbb).toLoadRect X2)
      (View.readAt (Elt Ideal) arg8.view (Rect.unit (s := S72x2x1024) ![8 * q, 0, 0] S8x2x128.size inb0).toLoadRect X8)
      (View.readAt (Elt Ideal) arg8.view (Rect.unit (s := S72x2x1024) ![8 * q, 0, 128] S8x2x128.size inb1).toLoadRect X8)
      (View.readAt (Elt Ideal) arg8.view (Rect.unit (s := S72x2x1024) ![8 * q, 0, 256] S8x2x128.size inb2).toLoadRect X8)
      (View.readAt (Elt Ideal) arg8.view (Rect.unit (s := S72x2x1024) ![8 * q, 0, 384] S8x2x128.size inb3).toLoadRect X8)
      (View.readAt (Elt Ideal) arg8.view (Rect.unit (s := S72x2x1024) ![8 * q, 0, 512] S8x2x128.size inb4).toLoadRect X8)
      (View.readAt (Elt Ideal) arg8.view (Rect.unit (s := S72x2x1024) ![8 * q, 0, 640] S8x2x128.size inb5).toLoadRect X8)
      (View.readAt (Elt Ideal) arg8.view (Rect.unit (s := S72x2x1024) ![8 * q, 0, 768] S8x2x128.size inb6).toLoadRect X8)
      (View.readAt (Elt Ideal) arg8.view (Rect.unit (s := S72x2x1024) ![8 * q, 0, 896] S8x2x128.size inb7).toLoadRect X8) x
      = rowsOf (arg2.view.read (Elt Ideal) X2) (arg8.view.read (Elt Ideal) X8) ((Rect.unit (s := S72x2x1024) offs S8x2x128.size inbs).emb x) := by
  apply pair_piece _ _ q k hq hk
  · exact load_codes arg2 X2 offa inba (2 * q) k (by omega) hk ha0 ha1 ha2
  · exact load_codes arg2 X2 offb inbb (2 * q + 1) k (by omega) hk hb0 hb1 hb2
  · exact load_table arg8 X8 _ _ q 0 hq (by norm_num) rfl rfl rfl
  · exact load_table arg8 X8 _ _ q 128 hq (by norm_num) rfl rfl rfl
  · exact load_table arg8 X8 _ _ q 256 hq (by norm_num) rfl rfl rfl
  · exact load_table arg8 X8 _ _ q 384 hq (by norm_num) rfl rfl rfl
  · exact load_table arg8 X8 _ _ q 512 hq (by norm_num) rfl rfl rfl
  · exact load_table arg8 X8 _ _ q 640 hq (by norm_num) rfl rfl rfl
  · exact load_table arg8 X8 _ _ q 768 hq (by norm_num) rfl rfl rfl
  · exact load_table arg8 X8 _ _ q 896 hq (by norm_num) rfl rfl rfl
  · show offs 0 + 1 * (x 0).val = _
    omega
  · show offs 1 + 1 * (x 1).val = _
    omega
  · show offs 2 + 1 * (x 2).val = _
    omega

set_option maxHeartbeats 4000000 in
theorem trip_pieces (c : Dev nD) (i : grid0.Coords) (arg2 : Memref sig .tc .vmem S1x18x1024 .i32) (harg2 : arg2.IsWhole) (arg3 : Memref sig .tc .vmem S18x8x1024 .bf16) (harg3 : arg3.IsWhole) (arg4 : Memref sig .tc .vmem S18x8x640 .fp8e4m3) (harg4 : arg4.IsWhole) (arg5 : Memref sig .tc .vmem S18x640 .f32) (harg5 : arg5.IsWhole) (arg6 : Memref sig .tc .vmem S18x640 .f32) (harg6 : arg6.IsWhole) (arg7 : Memref sig .tc .vmem S1x1024x1280 .bf16) (harg7 : arg7.IsWhole) (arg8 : Memref sig .tc .vmem S72x2x1024 .bf16) (harg8 : arg8.IsWhole) (arg9 : Memref sig .tc .vmem S144x1280 .bf16) (harg9 : arg9.IsWhole) (arg10 : Memref sig .tc .vmem S1x1280 .f32) (harg10 : arg10.IsWhole) (arg11 : Memref sig .tc .vmem S72x2x1024 .bf16) (harg11 : arg11.IsWhole)
    (X2 : BufTy.Contents (Elt Ideal) arg2.view.ty) (X8 : BufTy.Contents (Elt Ideal) arg8.view.ty) (k : Fin k0_t1_loop.trips) :
    View.PiecesOf (rowsOf (arg2.view.read (Elt Ideal) X2) (arg8.view.read (Elt Ideal) X8))
      (tripL_k0_t1 Variants.none c none i arg2 harg2 arg3 harg3 arg4 harg4 arg5 harg5 arg6 harg6 arg7 harg7 arg8 harg8 arg9 harg9 arg10 harg10 arg11 harg11 (iota Kind.tc S8x128 32 [0] iota_S8x128_d0_w32) X2 X8 k) := by
  unfold tripL_k0_t1 trip_k0_t1
  dsimp only
  refine ⟨fun x => ?_, fun x => ?_, fun x => ?_, fun x => ?_, fun x => ?_, fun x => ?_, fun x => ?_, fun x => ?_, fun x => ?_, trivial⟩
  · exact trip_piece arg2 arg8 X2 X8 8 k.val (by norm_num) (trips_eq ▸ k.isLt) (k0_off25 k) (k0_off26 k) (k0_off27 k) _ _ (k0_off27_inb k) _ _ _ _ _ _ _ _ rfl rfl (chunk_off k) rfl rfl (chunk_off k) rfl rfl (chunk_off k) x
  · exact trip_piece arg2 arg8 X2 X8 7 k.val (by norm_num) (trips_eq ▸ k.isLt) (k0_off22 k) (k0_off23 k) (k0_off24 k) _ _ (k0_off24_inb k) _ _ _ _ _ _ _ _ rfl rfl (chunk_off k) rfl rfl (chunk_off k) rfl rfl (chunk_off k) x
  · exact trip_piece arg2 arg8 X2 X8 6 k.val (by norm_num) (trips_eq ▸ k.isLt) (k0_off19 k) (k0_off20 k) (k0_off21 k) _ _ (k0_off21_inb k) _ _ _ _ _ _ _ _ rfl rfl (chunk_off k) rfl rfl (chunk_off k) rfl rfl (chunk_off k) x
  · exact trip_piece arg2 arg8 X2 X8 5 k.val (by norm_num) (trips_eq ▸ k.isLt) (k0_off16 k) (k0_off17 k) (k0_off18 k) _ _ (k0_off18_inb k) _ _ _ _ _ _ _ _ rfl rfl (chunk_off k) rfl rfl (chunk_off k) rfl rfl (chunk_off k) x
  · exact trip_piece arg2 arg8 X2 X8 4 k.val (by norm_num) (trips_eq ▸ k.isLt) (k0_off13 k) (k0_off14 k) (k0_off15 k) _ _ (k0_off15_inb k) _ _ _ _ _ _ _ _ rfl rfl (chunk_off k) rfl rfl (chunk_off k) rfl rfl (chunk_off k) x
  · exact trip_piece arg2 arg8 X2 X8 3 k.val (by norm_num) (trips_eq ▸ k.isLt) (k0_off10 k) (k0_off11 k) (k0_off12 k) _ _ (k0_off12_inb k) _ _ _ _ _ _ _ _ rfl rfl (chunk_off k) rfl rfl (chunk_off k) rfl rfl (chunk_off k) x
  · exact trip_piece arg2 arg8 X2 X8 2 k.val (by norm_num) (trips_eq ▸ k.isLt) (k0_off7 k) (k0_off8 k) (k0_off9 k) _ _ (k0_off9_inb k) _ _ _ _ _ _ _ _ rfl rfl (chunk_off k) rfl rfl (chunk_off k) rfl rfl (chunk_off k) x
  · exact trip_piece arg2 arg8 X2 X8 1 k.val (by norm_num) (trips_eq ▸ k.isLt) (k0_off4 k) (k0_off5 k) (k0_off6 k) _ _ (k0_off6_inb k) _ _ _ _ _ _ _ _ rfl rfl (chunk_off k) rfl rfl (chunk_off k) rfl rfl (chunk_off k) x
  · exact trip_piece arg2 arg8 X2 X8 0 k.val (by norm_num) (trips_eq ▸ k.isLt) (k0_off1 k) (k0_off2 k) (k0_off3 k) _ _ (k0_off3_inb k) _ _ _ _ _ _ _ _ rfl rfl (chunk_off k) rfl rfl (chunk_off k) rfl rfl (chunk_off k) x

/-- Which word rows and tokens a store covers. -/
theorem chunk_mem (q k : Nat) (off : Fin 3 → Nat) (inb : ∀ a, off a + S8x2x128.size a ≤ S72x2x1024.size a)
    (h0 : off 0 = 8 * q) (h1 : off 1 = 0) (h2 : off 2 = 128 * k) (y : S72x2x1024.Idx) (hq : 8 * q ≤ (y 0).val) (hq' : (y 0).val < 8 * q + 8)
    (hk : (y 2).val / 128 = k) : y ∈ (Rect.unit (s := S72x2x1024) off S8x2x128.size inb).set := by
  have hy1 : (y 1).val < 2 := (y 1).isLt
  rw [Rect.mem_set_unit]
  intro a
  fin_cases a
  · show off 0 ≤ (y 0).val ∧ (y 0).val < off 0 + 8
    omega
  · show off 1 ≤ (y 1).val ∧ (y 1).val < off 1 + 2
    omega
  · show off 2 ≤ (y 2).val ∧ (y 2).val < off 2 + 128
    omega

set_option maxHeartbeats 4000000 in
/-- Trip `k`'s nine stores cover the tokens from `128 * k` to `128 * k + 127`. -/
theorem trip_cover (c : Dev nD) (i : grid0.Coords) (arg2 : Memref sig .tc .vmem S1x18x1024 .i32) (harg2 : arg2.IsWhole) (arg3 : Memref sig .tc .vmem S18x8x1024 .bf16) (harg3 : arg3.IsWhole) (arg4 : Memref sig .tc .vmem S18x8x640 .fp8e4m3) (harg4 : arg4.IsWhole) (arg5 : Memref sig .tc .vmem S18x640 .f32) (harg5 : arg5.IsWhole) (arg6 : Memref sig .tc .vmem S18x640 .f32) (harg6 : arg6.IsWhole) (arg7 : Memref sig .tc .vmem S1x1024x1280 .bf16) (harg7 : arg7.IsWhole) (arg8 : Memref sig .tc .vmem S72x2x1024 .bf16) (harg8 : arg8.IsWhole) (arg9 : Memref sig .tc .vmem S144x1280 .bf16) (harg9 : arg9.IsWhole) (arg10 : Memref sig .tc .vmem S1x1280 .f32) (harg10 : arg10.IsWhole) (arg11 : Memref sig .tc .vmem S72x2x1024 .bf16) (harg11 : arg11.IsWhole)
    (X2 : BufTy.Contents (Elt Ideal) arg2.view.ty) (X8 : BufTy.Contents (Elt Ideal) arg8.view.ty) (k : Fin k0_t1_loop.trips) (y : S72x2x1024.Idx) (hy : (y 2).val / 128 = k.val) :
    ∃ p ∈ tripL_k0_t1 Variants.none c none i arg2 harg2 arg3 harg3 arg4 harg4 arg5 harg5 arg6 harg6 arg7 harg7 arg8 harg8 arg9 harg9 arg10 harg10 arg11 harg11 (iota Kind.tc S8x128 32 [0] iota_S8x128_d0_w32) X2 X8 k, y ∈ p.1.set := by
  have hy0 : (y 0).val < 72 := (y 0).isLt
  unfold tripL_k0_t1 trip_k0_t1
  dsimp only
  obtain h | h | h | h | h | h | h | h | h : (y 0).val / 8 = 0 ∨ (y 0).val / 8 = 1 ∨ (y 0).val / 8 = 2 ∨ (y 0).val / 8 = 3 ∨ (y 0).val / 8 = 4 ∨
      (y 0).val / 8 = 5 ∨ (y 0).val / 8 = 6 ∨ (y 0).val / 8 = 7 ∨ (y 0).val / 8 = 8 := by omega
  · exact ⟨_, (.tail _ (.tail _ (.tail _ (.tail _ (.tail _ (.tail _ (.tail _ (.tail _ (.head _))))))))), chunk_mem 0 k.val (k0_off3 k) (k0_off3_inb k) rfl rfl (chunk_off k) y (by omega) (by omega) hy⟩
  · exact ⟨_, (.tail _ (.tail _ (.tail _ (.tail _ (.tail _ (.tail _ (.tail _ (.head _)))))))), chunk_mem 1 k.val (k0_off6 k) (k0_off6_inb k) rfl rfl (chunk_off k) y (by omega) (by omega) hy⟩
  · exact ⟨_, (.tail _ (.tail _ (.tail _ (.tail _ (.tail _ (.tail _ (.head _))))))), chunk_mem 2 k.val (k0_off9 k) (k0_off9_inb k) rfl rfl (chunk_off k) y (by omega) (by omega) hy⟩
  · exact ⟨_, (.tail _ (.tail _ (.tail _ (.tail _ (.tail _ (.head _)))))), chunk_mem 3 k.val (k0_off12 k) (k0_off12_inb k) rfl rfl (chunk_off k) y (by omega) (by omega) hy⟩
  · exact ⟨_, (.tail _ (.tail _ (.tail _ (.tail _ (.head _))))), chunk_mem 4 k.val (k0_off15 k) (k0_off15_inb k) rfl rfl (chunk_off k) y (by omega) (by omega) hy⟩
  · exact ⟨_, (.tail _ (.tail _ (.tail _ (.head _)))), chunk_mem 5 k.val (k0_off18 k) (k0_off18_inb k) rfl rfl (chunk_off k) y (by omega) (by omega) hy⟩
  · exact ⟨_, (.tail _ (.tail _ (.head _))), chunk_mem 6 k.val (k0_off21 k) (k0_off21_inb k) rfl rfl (chunk_off k) y (by omega) (by omega) hy⟩
  · exact ⟨_, (.tail _ (.head _)), chunk_mem 7 k.val (k0_off24 k) (k0_off24_inb k) rfl rfl (chunk_off k) y (by omega) (by omega) hy⟩
  · exact ⟨_, (.head _), chunk_mem 8 k.val (k0_off27 k) (k0_off27_inb k) rfl rfl (chunk_off k) y (by omega) (by omega) hy⟩

/-- The stores of the trips before `n` are blocks of the gathered rows. -/
theorem loop_pieces (c : Dev nD) (i : grid0.Coords) (arg2 : Memref sig .tc .vmem S1x18x1024 .i32) (harg2 : arg2.IsWhole) (arg3 : Memref sig .tc .vmem S18x8x1024 .bf16) (harg3 : arg3.IsWhole) (arg4 : Memref sig .tc .vmem S18x8x640 .fp8e4m3) (harg4 : arg4.IsWhole) (arg5 : Memref sig .tc .vmem S18x640 .f32) (harg5 : arg5.IsWhole) (arg6 : Memref sig .tc .vmem S18x640 .f32) (harg6 : arg6.IsWhole) (arg7 : Memref sig .tc .vmem S1x1024x1280 .bf16) (harg7 : arg7.IsWhole) (arg8 : Memref sig .tc .vmem S72x2x1024 .bf16) (harg8 : arg8.IsWhole) (arg9 : Memref sig .tc .vmem S144x1280 .bf16) (harg9 : arg9.IsWhole) (arg10 : Memref sig .tc .vmem S1x1280 .f32) (harg10 : arg10.IsWhole) (arg11 : Memref sig .tc .vmem S72x2x1024 .bf16) (harg11 : arg11.IsWhole)
    (X2 : BufTy.Contents (Elt Ideal) arg2.view.ty) (X8 : BufTy.Contents (Elt Ideal) arg8.view.ty) :
    ∀ n ≤ k0_t1_loop.trips, ∀ p ∈ pb_k0_t1 Variants.none c none i arg2 harg2 arg3 harg3 arg4 harg4 arg5 harg5 arg6 harg6 arg7 harg7 arg8 harg8 arg9 harg9 arg10 harg10 arg11 harg11 (iota Kind.tc S8x128 32 [0] iota_S8x128_d0_w32) X2 X8 n, ∀ x : p.1.shape.Idx,
      p.2 x = rowsOf (arg2.view.read (Elt Ideal) X2) (arg8.view.read (Elt Ideal) X8) (p.1.emb x)
  | 0, _ => fun p hp => absurd hp List.not_mem_nil
  | n + 1, hn => fun p hp => by
    rw [pb_k0_t1_succ Variants.none c none i arg2 harg2 arg3 harg3 arg4 harg4 arg5 harg5 arg6 harg6 arg7 harg7 arg8 harg8 arg9 harg9 arg10 harg10 arg11 harg11 _ X2 X8 ⟨n, hn⟩] at hp
    rcases List.mem_append.1 hp with h | h
    · exact (trip_pieces c i arg2 harg2 arg3 harg3 arg4 harg4 arg5 harg5 arg6 harg6 arg7 harg7 arg8 harg8 arg9 harg9 arg10 harg10 arg11 harg11 X2 X8 ⟨n, hn⟩).mem p h
    · exact loop_pieces c i arg2 harg2 arg3 harg3 arg4 harg4 arg5 harg5 arg6 harg6 arg7 harg7 arg8 harg8 arg9 harg9 arg10 harg10 arg11 harg11 X2 X8 n (by omega) p h

/-- They cover the tokens below `128 * n`. -/
theorem loop_cover (c : Dev nD) (i : grid0.Coords) (arg2 : Memref sig .tc .vmem S1x18x1024 .i32) (harg2 : arg2.IsWhole) (arg3 : Memref sig .tc .vmem S18x8x1024 .bf16) (harg3 : arg3.IsWhole) (arg4 : Memref sig .tc .vmem S18x8x640 .fp8e4m3) (harg4 : arg4.IsWhole) (arg5 : Memref sig .tc .vmem S18x640 .f32) (harg5 : arg5.IsWhole) (arg6 : Memref sig .tc .vmem S18x640 .f32) (harg6 : arg6.IsWhole) (arg7 : Memref sig .tc .vmem S1x1024x1280 .bf16) (harg7 : arg7.IsWhole) (arg8 : Memref sig .tc .vmem S72x2x1024 .bf16) (harg8 : arg8.IsWhole) (arg9 : Memref sig .tc .vmem S144x1280 .bf16) (harg9 : arg9.IsWhole) (arg10 : Memref sig .tc .vmem S1x1280 .f32) (harg10 : arg10.IsWhole) (arg11 : Memref sig .tc .vmem S72x2x1024 .bf16) (harg11 : arg11.IsWhole)
    (X2 : BufTy.Contents (Elt Ideal) arg2.view.ty) (X8 : BufTy.Contents (Elt Ideal) arg8.view.ty) :
    ∀ n ≤ k0_t1_loop.trips, ∀ y : S72x2x1024.Idx, (y 2).val < 128 * n → ∃ p ∈ pb_k0_t1 Variants.none c none i arg2 harg2 arg3 harg3 arg4 harg4 arg5 harg5 arg6 harg6 arg7 harg7 arg8 harg8 arg9 harg9 arg10 harg10 arg11 harg11 (iota Kind.tc S8x128 32 [0] iota_S8x128_d0_w32) X2 X8 n, y ∈ p.1.set
  | 0, _ => fun y hy => absurd hy (by omega)
  | n + 1, hn => fun y hy => by
    rw [pb_k0_t1_succ Variants.none c none i arg2 harg2 arg3 harg3 arg4 harg4 arg5 harg5 arg6 harg6 arg7 harg7 arg8 harg8 arg9 harg9 arg10 harg10 arg11 harg11 _ X2 X8 ⟨n, hn⟩]
    by_cases h : (y 2).val / 128 = n
    · obtain ⟨p, hp, hm⟩ := trip_cover c i arg2 harg2 arg3 harg3 arg4 harg4 arg5 harg5 arg6 harg6 arg7 harg7 arg8 harg8 arg9 harg9 arg10 harg10 arg11 harg11 X2 X8 ⟨n, hn⟩ y h
      exact ⟨p, List.mem_append_left _ hp, hm⟩
    · obtain ⟨p, hp, hm⟩ := loop_cover c i arg2 harg2 arg3 harg3 arg4 harg4 arg5 harg5 arg6 harg6 arg7 harg7 arg8 harg8 arg9 harg9 arg10 harg10 arg11 harg11 X2 X8 n (by omega) y (by omega)
      exact ⟨p, List.mem_append_right _ hp, hm⟩

/-- What the row buffer holds after the loop: the gathered rows, everywhere. -/
theorem loop_canon (c : Dev nD) (i : grid0.Coords) (arg2 : Memref sig .tc .vmem S1x18x1024 .i32) (harg2 : arg2.IsWhole) (arg3 : Memref sig .tc .vmem S18x8x1024 .bf16) (harg3 : arg3.IsWhole) (arg4 : Memref sig .tc .vmem S18x8x640 .fp8e4m3) (harg4 : arg4.IsWhole) (arg5 : Memref sig .tc .vmem S18x640 .f32) (harg5 : arg5.IsWhole) (arg6 : Memref sig .tc .vmem S18x640 .f32) (harg6 : arg6.IsWhole) (arg7 : Memref sig .tc .vmem S1x1024x1280 .bf16) (harg7 : arg7.IsWhole) (arg8 : Memref sig .tc .vmem S72x2x1024 .bf16) (harg8 : arg8.IsWhole) (arg9 : Memref sig .tc .vmem S144x1280 .bf16) (harg9 : arg9.IsWhole) (arg10 : Memref sig .tc .vmem S1x1280 .f32) (harg10 : arg10.IsWhole) (arg11 : Memref sig .tc .vmem S72x2x1024 .bf16) (harg11 : arg11.IsWhole)
    (X2 : BufTy.Contents (Elt Ideal) arg2.view.ty) (X8 : BufTy.Contents (Elt Ideal) arg8.view.ty) (y : S72x2x1024.Idx) :
    View.canon (pb_k0_t1 Variants.none c none i arg2 harg2 arg3 harg3 arg4 harg4 arg5 harg5 arg6 harg6 arg7 harg7 arg8 harg8 arg9 harg9 arg10 harg10 arg11 harg11 (iota Kind.tc S8x128 32 [0] iota_S8x128_d0_w32) X2 X8 k0_t1_loop.trips) y = rowsOf (arg2.view.read (Elt Ideal) X2) (arg8.view.read (Elt Ideal) X8) y :=
  View.canon_apply_of_pieces _ _
    (loop_pieces c i arg2 harg2 arg3 harg3 arg4 harg4 arg5 harg5 arg6 harg6 arg7 harg7 arg8 harg8 arg9 harg9 arg10 harg10 arg11 harg11 X2 X8 _ le_rfl) y
    (loop_cover c i arg2 harg2 arg3 harg3 arg4 harg4 arg5 harg5 arg6 harg6 arg7 harg7 arg8 harg8 arg9 harg9 arg10 harg10 arg11 harg11 X2 X8 _ le_rfl y
      (by have h : (y 2).val < 1024 := (y 2).isLt
          rw [trips_eq]
          omega))

end Cert.KernelIdeal.Work
-- ==== Proof.Init.lean ====
/-
  What the first grid point leaves in the three scratch buffers that the later points read: the code
  books as rows of words, the projection weights in bf16, and the summed bias.
-/
module
public import proofs.«01_k».proof.Proof.Gather
public import Idealize.ShloMosaic.Lib.Pipeline.ReadBack

@[expose] public section

noncomputable section

namespace Cert.KernelIdeal.Work

open Cert.KernelIdeal Cert.KernelIdeal.Gen Idealize.ShloMosaic Idealize.ShloMosaic.TcCoe Idealize.SL.Sem

/-! ## The table: word row `r`, half `h` is dimension `(2 r + h) mod 8` of level `r / 4` -/

def tableOf (x1 : Vec Ideal S18x8x1024 .bf16) : Vec Ideal S72x2x1024 .bf16 :=
  fun i => x1 (ix3 (n0 := 18) (n1 := 8) (n2 := 1024) ⟨(i 0).val / 4, by have h : (i 0).val < 72 := (i 0).isLt; omega⟩
    ⟨(2 * (i 0).val + (i 1).val) % 8, Nat.mod_lt _ (by norm_num)⟩ (i 2))

/-- What is stored for one pair of levels. -/
def tableBlock (a b : Vec Ideal S1x8x1024 .bf16) : Vec Ideal S8x2x1024 .bf16 :=
  interleaveRows S8x2x1024
    (shapeCast S8x1x1024 (rowsOfParity 0 S8x1024 (concatenate S16x1024 0 [⟨S8x1024, shapeCast S8x1024 a shapeCasts_S1x8x1024_S8x1024⟩, ⟨S8x1024, shapeCast S8x1024 b shapeCasts_S1x8x1024_S8x1024⟩] concatenates_S8x1024_S8x1024_S16x1024_d0) bitcasts_S16x1024_w16_S8x1024_w32) shapeCasts_S8x1024_S8x1x1024)
    (shapeCast S8x1x1024 (rowsOfParity 1 S8x1024 (concatenate S16x1024 0 [⟨S8x1024, shapeCast S8x1024 a shapeCasts_S1x8x1024_S8x1024⟩, ⟨S8x1024, shapeCast S8x1024 b shapeCasts_S1x8x1024_S8x1024⟩] concatenates_S8x1024_S8x1024_S16x1024_d0) bitcasts_S16x1024_w16_S8x1024_w32) shapeCasts_S8x1024_S8x1x1024)
    bitcasts_S8x2x1024_w16_S8x1x1024_w32

theorem tableBlock_apply (a b : Vec Ideal S1x8x1024 .bf16) (s : Fin 8) (p : Fin 2) (n : Fin 1024) :
    tableBlock a b (ix3 s p n) = if h : s.val < 4 then a (ix3 (n0 := 1) (n1 := 8) (n2 := 1024) 0 ⟨2 * s.val + p.val, by omega⟩ n)
      else b (ix3 (n0 := 1) (n1 := 8) (n2 := 1024) 0 ⟨2 * s.val + p.val - 8, by omega⟩ n) := by
  have e : tableBlock a b (ix3 s p n)
      = rowsOfParity p S8x1x1024 (tableBlock a b) bitcasts_S8x2x1024_w16_S8x1x1024_w32 (ix3 s 0 n) := by
    unfold rowsOfParity
    congr 1
    idx_ext
  have hc : ∀ (ρ : Fin 16), concatenate S16x1024 0 [⟨S8x1024, shapeCast S8x1024 a shapeCasts_S1x8x1024_S8x1024⟩, ⟨S8x1024, shapeCast S8x1024 b shapeCasts_S1x8x1024_S8x1024⟩] concatenates_S8x1024_S8x1024_S16x1024_d0 (ix2 ρ n)
      = if h : ρ.val < 8 then a (ix3 (n0 := 1) (n1 := 8) (n2 := 1024) 0 ⟨ρ.val, h⟩ n)
        else b (ix3 (n0 := 1) (n1 := 8) (n2 := 1024) 0 ⟨ρ.val - 8, by omega⟩ n) := by
    intro ρ
    pointwise
  have hr : ∀ q : Fin 2, rowsOfParity q S8x1024 (concatenate S16x1024 0 [⟨S8x1024, shapeCast S8x1024 a shapeCasts_S1x8x1024_S8x1024⟩, ⟨S8x1024, shapeCast S8x1024 b shapeCasts_S1x8x1024_S8x1024⟩] concatenates_S8x1024_S8x1024_S16x1024_d0) bitcasts_S16x1024_w16_S8x1024_w32 (ix2 s n)
      = if h : s.val < 4 then a (ix3 (n0 := 1) (n1 := 8) (n2 := 1024) 0 ⟨2 * s.val + q.val, by omega⟩ n)
      else b (ix3 (n0 := 1) (n1 := 8) (n2 := 1024) 0 ⟨2 * s.val + q.val - 8, by omega⟩ n) := by
    intro q
    refine Eq.trans ?_ ((hc ⟨2 * s.val + q.val, by omega⟩).trans ?_)
    · unfold rowsOfParity
      congr 1
      idx_ext
    · by_cases h : s.val < 4
      · rw [dif_pos h, dif_pos (show 2 * s.val + q.val < 8 by omega)]
      · rw [dif_neg h, dif_neg (show ¬ 2 * s.val + q.val < 8 by omega)]
  rw [e]
  unfold tableBlock
  rw [rowsOfParity_interleaveRows]
  rw [← hr p]
  fin_cases p
  · simp only [Fin.zero_eta, ↓reduceIte]
    pointwise
  · simp only [Fin.mk_one, one_ne_zero, ↓reduceIte]
    pointwise

/-- One level's block of the code books, as loaded. -/
theorem load_book (arg3 : Memref sig .tc .vmem S18x8x1024 .bf16) (X : BufTy.Contents (Elt Ideal) arg3.view.ty)
    (L : Nat) (hL : L < 18) (inb : ∀ a, (![L, 0, 0] : Fin 3 → Nat) a + S1x8x1024.size a ≤ S18x8x1024.size a) (d : Fin 8) (n : Fin 1024) :
    View.readAt (Elt Ideal) arg3.view (Rect.unit (s := S18x8x1024) ![L, 0, 0] S1x8x1024.size inb).toLoadRect X (ix3 (n0 := 1) (n1 := 8) (n2 := 1024) 0 d n)
      = arg3.view.read (Elt Ideal) X (ix3 (n0 := 18) (n1 := 8) (n2 := 1024) ⟨L, hL⟩ d n) := by
  rw [View.readAt_apply]
  congr 1
  funext a
  apply Fin.ext
  fin_cases a
  · show L + 1 * 0 = L
    omega
  · show 0 + 1 * d.val = d.val
    omega
  · show 0 + 1 * n.val = n.val
    omega

theorem table_piece (arg3 : Memref sig .tc .vmem S18x8x1024 .bf16) (X : BufTy.Contents (Elt Ideal) arg3.view.ty)
    (q : Nat) (hq : q < 9) (La Lb : Nat) (hLa : La = 2 * q) (hLb : Lb = 2 * q + 1)
    (inba : ∀ a, (![La, 0, 0] : Fin 3 → Nat) a + S1x8x1024.size a ≤ S18x8x1024.size a)
    (inbb : ∀ a, (![Lb, 0, 0] : Fin 3 → Nat) a + S1x8x1024.size a ≤ S18x8x1024.size a)
    (inbs : ∀ a, (![8 * q, 0, 0] : Fin 3 → Nat) a + S8x2x1024.size a ≤ S72x2x1024.size a) (y : S8x2x1024.Idx) :
    tableBlock
      (View.readAt (Elt Ideal) arg3.view (Rect.unit (s := S18x8x1024) ![La, 0, 0] S1x8x1024.size inba).toLoadRect X)
      (View.readAt (Elt Ideal) arg3.view (Rect.unit (s := S18x8x1024) ![Lb, 0, 0] S1x8x1024.size inbb).toLoadRect X) y
      = tableOf (arg3.view.read (Elt Ideal) X) ((Rect.unit (s := S72x2x1024) ![8 * q, 0, 0] S8x2x1024.size inbs).emb y) := by
  subst hLa hLb
  obtain ⟨s, p, n, rfl⟩ : ∃ (s : Fin 8) (p : Fin 2) (n : Fin 1024), y = ix3 s p n := ⟨y 0, y 1, y 2, eq_ix3 y⟩
  have hz : (Rect.unit (s := S72x2x1024) ![8 * q, 0, 0] S8x2x1024.size inbs).emb (ix3 s p n)
      = ix3 (n0 := 72) (n1 := 2) (n2 := 1024) ⟨8 * q + s.val, by omega⟩ p n := by
    funext a
    apply Fin.ext
    fin_cases a
    · show 8 * q + 1 * s.val = 8 * q + s.val
      omega
    · show 0 + 1 * p.val = p.val
      omega
    · show 0 + 1 * n.val = n.val
      omega
  rw [hz, tableBlock_apply]
  unfold tableOf
  simp only [ix3_0, ix3_1, ix3_2]
  by_cases h : s.val < 4
  · rw [dif_pos h, load_book arg3 X (2 * q) (by omega)]
    congr 1
    refine (ix3_inj _ _ _ _ _ _).2 ⟨Fin.ext ?_, Fin.ext ?_, rfl⟩
    · show 2 * q = (8 * q + s.val) / 4
      omega
    · show 2 * s.val + p.val = (2 * (8 * q + s.val) + p.val) % 8
      omega
  · rw [dif_neg h, load_book arg3 X (2 * q + 1) (by omega)]
    congr 1
    refine (ix3_inj _ _ _ _ _ _).2 ⟨Fin.ext ?_, Fin.ext ?_, rfl⟩
    · show 2 * q + 1 = (8 * q + s.val) / 4
      omega
    · show 2 * s.val + p.val - 8 = (2 * (8 * q + s.val) + p.val) % 8
      omega

theorem table_mem (q : Nat) (inb : ∀ a, (![8 * q, 0, 0] : Fin 3 → Nat) a + S8x2x1024.size a ≤ S72x2x1024.size a)
    (y : S72x2x1024.Idx) (h : 8 * q ≤ (y 0).val) (h' : (y 0).val < 8 * q + 8) :
    y ∈ (Rect.unit (s := S72x2x1024) ![8 * q, 0, 0] S8x2x1024.size inb).set := by
  have h1 : (y 1).val < 2 := (y 1).isLt
  have h2 : (y 2).val < 1024 := (y 2).isLt
  rw [Rect.mem_set_unit]
  intro a
  fin_cases a
  · show 8 * q ≤ (y 0).val ∧ (y 0).val < 8 * q + 8
    omega
  · show 0 ≤ (y 1).val ∧ (y 1).val < 0 + 2
    omega
  · show 0 ≤ (y 2).val ∧ (y 2).val < 0 + 1024
    omega

theorem table_canon (c : Dev nD) (arg3 : Memref sig .tc .vmem S18x8x1024 .bf16) (harg3 : arg3.IsWhole) (x1 : Vec Ideal S18x8x1024 .bf16) :
    View.canon (kernelRun0_A.sl.HS0_9 c arg3 harg3 x1) = tableOf x1 := by
  have hp : View.PiecesOf (tableOf (arg3.view.read (Elt Ideal) (harg3.unread x1))) (kernelRun0_A.sl.HS0_9 c arg3 harg3 x1) := by
    unfold kernelRun0_A.sl.HS0_9
    dsimp only
    refine ⟨fun y => ?_, fun y => ?_, fun y => ?_, fun y => ?_, fun y => ?_, fun y => ?_, fun y => ?_, fun y => ?_, fun y => ?_, trivial⟩
    · exact table_piece arg3 (harg3.unread x1) 8 (by norm_num) 16 17 rfl rfl _ _ inb_S72x2x1024_S8x2x1024_64_0_0 y
    · exact table_piece arg3 (harg3.unread x1) 7 (by norm_num) 14 15 rfl rfl _ _ inb_S72x2x1024_S8x2x1024_56_0_0 y
    · exact table_piece arg3 (harg3.unread x1) 6 (by norm_num) 12 13 rfl rfl _ _ inb_S72x2x1024_S8x2x1024_48_0_0 y
    · exact table_piece arg3 (harg3.unread x1) 5 (by norm_num) 10 11 rfl rfl _ _ inb_S72x2x1024_S8x2x1024_40_0_0 y
    · exact table_piece arg3 (harg3.unread x1) 4 (by norm_num) 8 9 rfl rfl _ _ inb_S72x2x1024_S8x2x1024_32_0_0 y
    · exact table_piece arg3 (harg3.unread x1) 3 (by norm_num) 6 7 rfl rfl _ _ inb_S72x2x1024_S8x2x1024_24_0_0 y
    · exact table_piece arg3 (harg3.unread x1) 2 (by norm_num) 4 5 rfl rfl _ _ inb_S72x2x1024_S8x2x1024_16_0_0 y
    · exact table_piece arg3 (harg3.unread x1) 1 (by norm_num) 2 3 rfl rfl _ _ inb_S72x2x1024_S8x2x1024_8_0_0 y
    · exact table_piece arg3 (harg3.unread x1) 0 (by norm_num) 0 1 rfl rfl _ _ inb_S72x2x1024_S8x2x1024_0_0_0 y
  rw [harg3.read_unread] at hp
  funext y
  refine View.canon_apply_of_pieces _ _ hp.mem y ?_
  have hy0 : (y 0).val < 72 := (y 0).isLt
  unfold kernelRun0_A.sl.HS0_9
  dsimp only
  obtain h | h | h | h | h | h | h | h | h : (y 0).val / 8 = 0 ∨ (y 0).val / 8 = 1 ∨ (y 0).val / 8 = 2 ∨ (y 0).val / 8 = 3 ∨ (y 0).val / 8 = 4 ∨ (y 0).val / 8 = 5 ∨ (y 0).val / 8 = 6 ∨ (y 0).val / 8 = 7 ∨ (y 0).val / 8 = 8 := by omega
  · exact ⟨_, (.tail _ (.tail _ (.tail _ (.tail _ (.tail _ (.tail _ (.tail _ (.tail _ (.head _))))))))), table_mem 0 inb_S72x2x1024_S8x2x1024_0_0_0 y (by omega) (by omega)⟩
  · exact ⟨_, (.tail _ (.tail _ (.tail _ (.tail _ (.tail _ (.tail _ (.tail _ (.head _)))))))), table_mem 1 inb_S72x2x1024_S8x2x1024_8_0_0 y (by omega) (by omega)⟩
  · exact ⟨_, (.tail _ (.tail _ (.tail _ (.tail _ (.tail _ (.tail _ (.head _))))))), table_mem 2 inb_S72x2x1024_S8x2x1024_16_0_0 y (by omega) (by omega)⟩
  · exact ⟨_, (.tail _ (.tail _ (.tail _ (.tail _ (.tail _ (.head _)))))), table_mem 3 inb_S72x2x1024_S8x2x1024_24_0_0 y (by omega) (by omega)⟩
  · exact ⟨_, (.tail _ (.tail _ (.tail _ (.tail _ (.head _))))), table_mem 4 inb_S72x2x1024_S8x2x1024_32_0_0 y (by omega) (by omega)⟩
  · exact ⟨_, (.tail _ (.tail _ (.tail _ (.head _)))), table_mem 5 inb_S72x2x1024_S8x2x1024_40_0_0 y (by omega) (by omega)⟩
  · exact ⟨_, (.tail _ (.tail _ (.head _))), table_mem 6 inb_S72x2x1024_S8x2x1024_48_0_0 y (by omega) (by omega)⟩
  · exact ⟨_, (.tail _ (.head _)), table_mem 7 inb_S72x2x1024_S8x2x1024_56_0_0 y (by omega) (by omega)⟩
  · exact ⟨_, (.head _), table_mem 8 inb_S72x2x1024_S8x2x1024_64_0_0 y (by omega) (by omega)⟩

/-! ## The weights: row `q` is dimension `q mod 8` of level `q / 8`, in the columns of its half -/

/-- A level's fp8 codes times its scales. -/
def levelProd (x2 : Vec Ideal S18x8x640 .fp8e4m3) (x3 : Vec Ideal S18x640 .f32) (l : Fin 18) (d : Fin 8) (j : Fin 640) : EReal :=
  x2 (ix3 l d j) * x3 (ix2 l j)

/-- Row `q`, column `j` of the weights. -/
def weightAt (x2 : Vec Ideal S18x8x640 .fp8e4m3) (x3 : Vec Ideal S18x640 .f32) (q : Fin 144) (j : Fin 1280) : EReal :=
  if h : j.val < 640 then
    if q.val < 72 then levelProd x2 x3 ⟨q.val / 8, by omega⟩ ⟨q.val % 8, by omega⟩ ⟨j.val, h⟩ else 0
  else
    if q.val < 72 then 0 else levelProd x2 x3 ⟨q.val / 8, by omega⟩ ⟨q.val % 8, by omega⟩ ⟨j.val - 640, by omega⟩

def weightOf (x2 : Vec Ideal S18x8x640 .fp8e4m3) (x3 : Vec Ideal S18x640 .f32) : Vec Ideal S144x1280 .bf16 :=
  fun i => weightAt x2 x3 (i 0) (i 1)

/-- One level's product, as the kernel computes it. -/
def prodBlock (s : Vec Ideal S1x640 .f32) (p : Vec Ideal S1x8x640 .fp8e4m3) : FVec Ideal S8x640 .f32 :=
  mulf (extf .f32 (shapeCast S8x640 p shapeCasts_S1x8x640_S8x640) bitsLt_fp8e4m3_f32)
    (broadcastTo S8x640 (extf .f32 (truncf .bf16 s bitsLt_bf16_f32) bitsLt_bf16_f32) broadcasts_S1x640_S8x640)

theorem prodBlock_apply (s : Vec Ideal S1x640 .f32) (p : Vec Ideal S1x8x640 .fp8e4m3) (d : Fin 8) (j : Fin 640) :
    prodBlock s p (ix2 d j) = p (ix3 (n0 := 1) (n1 := 8) (n2 := 640) 0 d j) * s (ix2 (n0 := 1) (n1 := 640) 0 j) := by
  unfold prodBlock
  pointwise

/-- Two levels' rows, one over the other, rounded. -/
def weightBlock (a b : FVec Ideal S8x1280 .f32) : FVec Ideal S16x1280 .bf16 :=
  shapeCast S16x1280 (truncf .bf16 (concatenate S16x1280 0 [⟨S8x1280, a⟩, ⟨S8x1280, b⟩] concatenates_S8x1280_S8x1280_S16x1280_d0) bitsLt_bf16_f32) shapeCasts_S16x1280_S16x1280

theorem weightBlock_apply (a b : FVec Ideal S8x1280 .f32) (ρ : Fin 16) (j : Fin 1280) :
    weightBlock a b (ix2 ρ j) = if h : ρ.val < 8 then a (ix2 (n0 := 8) (n1 := 1280) ⟨ρ.val, h⟩ j) else b (ix2 (n0 := 8) (n1 := 1280) ⟨ρ.val - 8, by omega⟩ j) := by
  unfold weightBlock
  pointwise

/-- A level of the first half: its product, then zeros. -/
def leftRow (s : Vec Ideal S1x640 .f32) (p : Vec Ideal S1x8x640 .fp8e4m3) : FVec Ideal S8x1280 .f32 :=
  concatenate S8x1280 1 [⟨S8x640, prodBlock s p⟩, ⟨S8x640, k0_pay5 (F := Ideal)⟩] concatenates_S8x640_S8x640_S8x1280_d1

/-- A level of the second half: zeros, then its product. -/
def rightRow (s : Vec Ideal S1x640 .f32) (p : Vec Ideal S1x8x640 .fp8e4m3) : FVec Ideal S8x1280 .f32 :=
  concatenate S8x1280 1 [⟨S8x640, k0_pay5 (F := Ideal)⟩, ⟨S8x640, prodBlock s p⟩] concatenates_S8x640_S8x640_S8x1280_d1

theorem leftRow_apply (s : Vec Ideal S1x640 .f32) (p : Vec Ideal S1x8x640 .fp8e4m3) (d : Fin 8) (j : Fin 1280) :
    leftRow s p (ix2 d j) = if h : j.val < 640 then p (ix3 (n0 := 1) (n1 := 8) (n2 := 640) 0 d ⟨j.val, h⟩) * s (ix2 (n0 := 1) (n1 := 640) 0 ⟨j.val, h⟩) else 0 := by
  unfold leftRow prodBlock k0_pay5
  pointwise

theorem rightRow_apply (s : Vec Ideal S1x640 .f32) (p : Vec Ideal S1x8x640 .fp8e4m3) (d : Fin 8) (j : Fin 1280) :
    rightRow s p (ix2 d j) = if h : j.val < 640 then 0 else p (ix3 (n0 := 1) (n1 := 8) (n2 := 640) 0 d ⟨j.val - 640, by omega⟩) * s (ix2 (n0 := 1) (n1 := 640) 0 ⟨j.val - 640, by omega⟩) := by
  unfold rightRow prodBlock k0_pay5
  pointwise

theorem load_proj (arg4 : Memref sig .tc .vmem S18x8x640 .fp8e4m3) (X : BufTy.Contents (Elt Ideal) arg4.view.ty)
    (L : Nat) (hL : L < 18) (inb : ∀ a, (![L, 0, 0] : Fin 3 → Nat) a + S1x8x640.size a ≤ S18x8x640.size a) (d : Fin 8) (j : Fin 640) :
    View.readAt (Elt Ideal) arg4.view (Rect.unit (s := S18x8x640) ![L, 0, 0] S1x8x640.size inb).toLoadRect X (ix3 (n0 := 1) (n1 := 8) (n2 := 640) 0 d j)
      = arg4.view.read (Elt Ideal) X (ix3 (n0 := 18) (n1 := 8) (n2 := 640) ⟨L, hL⟩ d j) := by
  rw [View.readAt_apply]
  congr 1
  funext a
  apply Fin.ext
  fin_cases a
  · show L + 1 * 0 = L
    omega
  · show 0 + 1 * d.val = d.val
    omega
  · show 0 + 1 * j.val = j.val
    omega

theorem load_scale (arg5 : Memref sig .tc .vmem S18x640 .f32) (X : BufTy.Contents (Elt Ideal) arg5.view.ty)
    (L : Nat) (hL : L < 18) (inb : ∀ a, (![L, 0] : Fin 2 → Nat) a + S1x640.size a ≤ S18x640.size a) (j : Fin 640) :
    View.readAt (Elt Ideal) arg5.view (Rect.unit (s := S18x640) ![L, 0] S1x640.size inb).toLoadRect X (ix2 (n0 := 1) (n1 := 640) 0 j)
      = arg5.view.read (Elt Ideal) X (ix2 (n0 := 18) (n1 := 640) ⟨L, hL⟩ j) := by
  rw [View.readAt_apply]
  congr 1
  funext a
  apply Fin.ext
  fin_cases a
  · show L + 1 * 0 = L
    omega
  · show 0 + 1 * j.val = j.val
    omega

theorem leftRow_ok (arg4 : Memref sig .tc .vmem S18x8x640 .fp8e4m3) (X4 : BufTy.Contents (Elt Ideal) arg4.view.ty)
    (arg5 : Memref sig .tc .vmem S18x640 .f32) (X5 : BufTy.Contents (Elt Ideal) arg5.view.ty) (L : Nat) (hL : L < 18) (hc : L < 9)
    (inb5L : ∀ a, (![L, 0] : Fin 2 → Nat) a + S1x640.size a ≤ S18x640.size a)
    (inb4L : ∀ a, (![L, 0, 0] : Fin 3 → Nat) a + S1x8x640.size a ≤ S18x8x640.size a) (d : Fin 8) (j : Fin 1280) :
    leftRow (View.readAt (Elt Ideal) arg5.view (Rect.unit (s := S18x640) ![L, 0] S1x640.size inb5L).toLoadRect X5) (View.readAt (Elt Ideal) arg4.view (Rect.unit (s := S18x8x640) ![L, 0, 0] S1x8x640.size inb4L).toLoadRect X4) (ix2 d j)
      = weightOf (arg4.view.read (Elt Ideal) X4) (arg5.view.read (Elt Ideal) X5) (ix2 (n0 := 144) (n1 := 1280) ⟨8 * L + d.val, by omega⟩ j) := by
  rw [leftRow_apply]
  show _ = weightAt _ _ (⟨8 * L + d.val, by omega⟩ : Fin 144) j
  unfold weightAt levelProd
  have e8 : (8 * L + d.val) / 8 = L := by omega
  have em : (8 * L + d.val) % 8 = d.val := by omega
  by_cases h : j.val < 640
  · rw [dif_pos h, dif_pos h, if_pos (show 8 * L + d.val < 72 by omega)]
    rw [load_proj arg4 X4 L hL, load_scale arg5 X5 L hL]
    simp only [e8, em]
  · rw [dif_neg h, dif_neg h, if_pos (show 8 * L + d.val < 72 by omega)]

theorem rightRow_ok (arg4 : Memref sig .tc .vmem S18x8x640 .fp8e4m3) (X4 : BufTy.Contents (Elt Ideal) arg4.view.ty)
    (arg5 : Memref sig .tc .vmem S18x640 .f32) (X5 : BufTy.Contents (Elt Ideal) arg5.view.ty) (L : Nat) (hL : L < 18) (hc : 9 ≤ L)
    (inb5L : ∀ a, (![L, 0] : Fin 2 → Nat) a + S1x640.size a ≤ S18x640.size a)
    (inb4L : ∀ a, (![L, 0, 0] : Fin 3 → Nat) a + S1x8x640.size a ≤ S18x8x640.size a) (d : Fin 8) (j : Fin 1280) :
    rightRow (View.readAt (Elt Ideal) arg5.view (Rect.unit (s := S18x640) ![L, 0] S1x640.size inb5L).toLoadRect X5) (View.readAt (Elt Ideal) arg4.view (Rect.unit (s := S18x8x640) ![L, 0, 0] S1x8x640.size inb4L).toLoadRect X4) (ix2 d j)
      = weightOf (arg4.view.read (Elt Ideal) X4) (arg5.view.read (Elt Ideal) X5) (ix2 (n0 := 144) (n1 := 1280) ⟨8 * L + d.val, by omega⟩ j) := by
  rw [rightRow_apply]
  show _ = weightAt _ _ (⟨8 * L + d.val, by omega⟩ : Fin 144) j
  unfold weightAt levelProd
  have e8 : (8 * L + d.val) / 8 = L := by omega
  have em : (8 * L + d.val) % 8 = d.val := by omega
  by_cases h : j.val < 640
  · rw [dif_pos h, dif_pos h, if_neg (show ¬ 8 * L + d.val < 72 by omega)]
  · rw [dif_neg h, dif_neg h, if_neg (show ¬ 8 * L + d.val < 72 by omega)]
    rw [load_proj arg4 X4 L hL, load_scale arg5 X5 L hL]
    simp only [e8, em]

/-- A store of two levels' rows, each the weights' rows of its level. -/
theorem weight_piece (arg4 : Memref sig .tc .vmem S18x8x640 .fp8e4m3) (X4 : BufTy.Contents (Elt Ideal) arg4.view.ty)
    (arg5 : Memref sig .tc .vmem S18x640 .f32) (X5 : BufTy.Contents (Elt Ideal) arg5.view.ty) (q : Nat) (hq : q < 9)
    (A B : FVec Ideal S8x1280 .f32)
    (hA : ∀ (d : Fin 8) (j : Fin 1280), A (ix2 d j)
      = weightOf (arg4.view.read (Elt Ideal) X4) (arg5.view.read (Elt Ideal) X5) (ix2 (n0 := 144) (n1 := 1280) ⟨8 * (2 * q) + d.val, by omega⟩ j))
    (hB : ∀ (d : Fin 8) (j : Fin 1280), B (ix2 d j)
      = weightOf (arg4.view.read (Elt Ideal) X4) (arg5.view.read (Elt Ideal) X5) (ix2 (n0 := 144) (n1 := 1280) ⟨8 * (2 * q + 1) + d.val, by omega⟩ j))
    (inbs : ∀ a, (![16 * q, 0] : Fin 2 → Nat) a + S16x1280.size a ≤ S144x1280.size a) (y : S16x1280.Idx) :
    weightBlock A B y = weightOf (arg4.view.read (Elt Ideal) X4) (arg5.view.read (Elt Ideal) X5) ((Rect.unit (s := S144x1280) ![16 * q, 0] S16x1280.size inbs).emb y) := by
  obtain ⟨ρ, j, rfl⟩ : ∃ (ρ : Fin 16) (j : Fin 1280), y = ix2 ρ j := ⟨y 0, y 1, eq_ix2 y⟩
  have hz : (Rect.unit (s := S144x1280) ![16 * q, 0] S16x1280.size inbs).emb (ix2 ρ j)
      = ix2 (n0 := 144) (n1 := 1280) ⟨16 * q + ρ.val, by omega⟩ j := by
    funext a
    apply Fin.ext
    fin_cases a
    · show 16 * q + 1 * ρ.val = 16 * q + ρ.val
      omega
    · show 0 + 1 * j.val = j.val
      omega
  rw [hz, weightBlock_apply]
  by_cases h : ρ.val < 8
  · rw [dif_pos h, hA]
    congr 1
    refine (ix2_inj _ _ _ _).2 ⟨Fin.ext ?_, rfl⟩
    show 8 * (2 * q) + ρ.val = 16 * q + ρ.val
    omega
  · rw [dif_neg h, hB]
    congr 1
    refine (ix2_inj _ _ _ _).2 ⟨Fin.ext ?_, rfl⟩
    show 8 * (2 * q + 1) + (ρ.val - 8) = 16 * q + ρ.val
    omega

/-- The left stores. -/
theorem weight_piece_left (arg4 : Memref sig .tc .vmem S18x8x640 .fp8e4m3) (X4 : BufTy.Contents (Elt Ideal) arg4.view.ty)
    (arg5 : Memref sig .tc .vmem S18x640 .f32) (X5 : BufTy.Contents (Elt Ideal) arg5.view.ty)
    (q : Nat) (hq : q < 9) (hc : q < 4) (La Lb : Nat) (hLa : La = 2 * q) (hLb : Lb = 2 * q + 1)
    (inb5a : ∀ a, (![La, 0] : Fin 2 → Nat) a + S1x640.size a ≤ S18x640.size a)
    (inb4a : ∀ a, (![La, 0, 0] : Fin 3 → Nat) a + S1x8x640.size a ≤ S18x8x640.size a)
    (inb5b : ∀ a, (![Lb, 0] : Fin 2 → Nat) a + S1x640.size a ≤ S18x640.size a)
    (inb4b : ∀ a, (![Lb, 0, 0] : Fin 3 → Nat) a + S1x8x640.size a ≤ S18x8x640.size a)
    (inbs : ∀ a, (![16 * q, 0] : Fin 2 → Nat) a + S16x1280.size a ≤ S144x1280.size a) (y : S16x1280.Idx) :
    weightBlock
      (leftRow (View.readAt (Elt Ideal) arg5.view (Rect.unit (s := S18x640) ![La, 0] S1x640.size inb5a).toLoadRect X5) (View.readAt (Elt Ideal) arg4.view (Rect.unit (s := S18x8x640) ![La, 0, 0] S1x8x640.size inb4a).toLoadRect X4))
      (leftRow (View.readAt (Elt Ideal) arg5.view (Rect.unit (s := S18x640) ![Lb, 0] S1x640.size inb5b).toLoadRect X5) (View.readAt (Elt Ideal) arg4.view (Rect.unit (s := S18x8x640) ![Lb, 0, 0] S1x8x640.size inb4b).toLoadRect X4)) y
      = weightOf (arg4.view.read (Elt Ideal) X4) (arg5.view.read (Elt Ideal) X5) ((Rect.unit (s := S144x1280) ![16 * q, 0] S16x1280.size inbs).emb y) := by
  subst hLa hLb
  exact weight_piece arg4 X4 arg5 X5 q hq _ _
    (leftRow_ok arg4 X4 arg5 X5 (2 * q) (by omega) (by omega) inb5a inb4a) (leftRow_ok arg4 X4 arg5 X5 (2 * q + 1) (by omega) (by omega) inb5b inb4b) inbs y

/-- The mixed stores. -/
theorem weight_piece_mixed (arg4 : Memref sig .tc .vmem S18x8x640 .fp8e4m3) (X4 : BufTy.Contents (Elt Ideal) arg4.view.ty)
    (arg5 : Memref sig .tc .vmem S18x640 .f32) (X5 : BufTy.Contents (Elt Ideal) arg5.view.ty)
    (q : Nat) (hq : q < 9) (hc : q = 4) (La Lb : Nat) (hLa : La = 2 * q) (hLb : Lb = 2 * q + 1)
    (inb5a : ∀ a, (![La, 0] : Fin 2 → Nat) a + S1x640.size a ≤ S18x640.size a)
    (inb4a : ∀ a, (![La, 0, 0] : Fin 3 → Nat) a + S1x8x640.size a ≤ S18x8x640.size a)
    (inb5b : ∀ a, (![Lb, 0] : Fin 2 → Nat) a + S1x640.size a ≤ S18x640.size a)
    (inb4b : ∀ a, (![Lb, 0, 0] : Fin 3 → Nat) a + S1x8x640.size a ≤ S18x8x640.size a)
    (inbs : ∀ a, (![16 * q, 0] : Fin 2 → Nat) a + S16x1280.size a ≤ S144x1280.size a) (y : S16x1280.Idx) :
    weightBlock
      (leftRow (View.readAt (Elt Ideal) arg5.view (Rect.unit (s := S18x640) ![La, 0] S1x640.size inb5a).toLoadRect X5) (View.readAt (Elt Ideal) arg4.view (Rect.unit (s := S18x8x640) ![La, 0, 0] S1x8x640.size inb4a).toLoadRect X4))
      (rightRow (View.readAt (Elt Ideal) arg5.view (Rect.unit (s := S18x640) ![Lb, 0] S1x640.size inb5b).toLoadRect X5) (View.readAt (Elt Ideal) arg4.view (Rect.unit (s := S18x8x640) ![Lb, 0, 0] S1x8x640.size inb4b).toLoadRect X4)) y
      = weightOf (arg4.view.read (Elt Ideal) X4) (arg5.view.read (Elt Ideal) X5) ((Rect.unit (s := S144x1280) ![16 * q, 0] S16x1280.size inbs).emb y) := by
  subst hLa hLb
  exact weight_piece arg4 X4 arg5 X5 q hq _ _
    (leftRow_ok arg4 X4 arg5 X5 (2 * q) (by omega) (by omega) inb5a inb4a) (rightRow_ok arg4 X4 arg5 X5 (2 * q + 1) (by omega) (by omega) inb5b inb4b) inbs y

/-- The right stores. -/
theorem weight_piece_right (arg4 : Memref sig .tc .vmem S18x8x640 .fp8e4m3) (X4 : BufTy.Contents (Elt Ideal) arg4.view.ty)
    (arg5 : Memref sig .tc .vmem S18x640 .f32) (X5 : BufTy.Contents (Elt Ideal) arg5.view.ty)
    (q : Nat) (hq : q < 9) (hc : 4 < q) (La Lb : Nat) (hLa : La = 2 * q) (hLb : Lb = 2 * q + 1)
    (inb5a : ∀ a, (![La, 0] : Fin 2 → Nat) a + S1x640.size a ≤ S18x640.size a)
    (inb4a : ∀ a, (![La, 0, 0] : Fin 3 → Nat) a + S1x8x640.size a ≤ S18x8x640.size a)
    (inb5b : ∀ a, (![Lb, 0] : Fin 2 → Nat) a + S1x640.size a ≤ S18x640.size a)
    (inb4b : ∀ a, (![Lb, 0, 0] : Fin 3 → Nat) a + S1x8x640.size a ≤ S18x8x640.size a)
    (inbs : ∀ a, (![16 * q, 0] : Fin 2 → Nat) a + S16x1280.size a ≤ S144x1280.size a) (y : S16x1280.Idx) :
    weightBlock
      (rightRow (View.readAt (Elt Ideal) arg5.view (Rect.unit (s := S18x640) ![La, 0] S1x640.size inb5a).toLoadRect X5) (View.readAt (Elt Ideal) arg4.view (Rect.unit (s := S18x8x640) ![La, 0, 0] S1x8x640.size inb4a).toLoadRect X4))
      (rightRow (View.readAt (Elt Ideal) arg5.view (Rect.unit (s := S18x640) ![Lb, 0] S1x640.size inb5b).toLoadRect X5) (View.readAt (Elt Ideal) arg4.view (Rect.unit (s := S18x8x640) ![Lb, 0, 0] S1x8x640.size inb4b).toLoadRect X4)) y
      = weightOf (arg4.view.read (Elt Ideal) X4) (arg5.view.read (Elt Ideal) X5) ((Rect.unit (s := S144x1280) ![16 * q, 0] S16x1280.size inbs).emb y) := by
  subst hLa hLb
  exact weight_piece arg4 X4 arg5 X5 q hq _ _
    (rightRow_ok arg4 X4 arg5 X5 (2 * q) (by omega) (by omega) inb5a inb4a) (rightRow_ok arg4 X4 arg5 X5 (2 * q + 1) (by omega) (by omega) inb5b inb4b) inbs y

theorem weight_mem (q : Nat) (inb : ∀ a, (![16 * q, 0] : Fin 2 → Nat) a + S16x1280.size a ≤ S144x1280.size a)
    (y : S144x1280.Idx) (h : 16 * q ≤ (y 0).val) (h' : (y 0).val < 16 * q + 16) :
    y ∈ (Rect.unit (s := S144x1280) ![16 * q, 0] S16x1280.size inb).set := by
  have h1 : (y 1).val < 1280 := (y 1).isLt
  rw [Rect.mem_set_unit]
  intro a
  fin_cases a
  · show 16 * q ≤ (y 0).val ∧ (y 0).val < 16 * q + 16
    omega
  · show 0 ≤ (y 1).val ∧ (y 1).val < 0 + 1280
    omega

theorem weight_canon (c : Dev nD) (arg4 : Memref sig .tc .vmem S18x8x640 .fp8e4m3) (harg4 : arg4.IsWhole) (arg5 : Memref sig .tc .vmem S18x640 .f32) (harg5 : arg5.IsWhole)
    (x2 : Vec Ideal S18x8x640 .fp8e4m3) (x3 : Vec Ideal S18x640 .f32) :
    View.canon (kernelRun0_A.sl.HS1_9 c arg4 harg4 arg5 harg5 x2 x3) = weightOf x2 x3 := by
  have hp : View.PiecesOf (weightOf (arg4.view.read (Elt Ideal) (harg4.unread x2)) (arg5.view.read (Elt Ideal) (harg5.unread x3)))
      (kernelRun0_A.sl.HS1_9 c arg4 harg4 arg5 harg5 x2 x3) := by
    unfold kernelRun0_A.sl.HS1_9
    dsimp only
    refine ⟨fun y => ?_, fun y => ?_, fun y => ?_, fun y => ?_, fun y => ?_, fun y => ?_, fun y => ?_, fun y => ?_, fun y => ?_, trivial⟩
    · exact weight_piece_right arg4 (harg4.unread x2) arg5 (harg5.unread x3) 8 (by norm_num) (by norm_num) 16 17 rfl rfl _ _ _ _ inb_S144x1280_S16x1280_128_0 y
    · exact weight_piece_right arg4 (harg4.unread x2) arg5 (harg5.unread x3) 7 (by norm_num) (by norm_num) 14 15 rfl rfl _ _ _ _ inb_S144x1280_S16x1280_112_0 y
    · exact weight_piece_right arg4 (harg4.unread x2) arg5 (harg5.unread x3) 6 (by norm_num) (by norm_num) 12 13 rfl rfl _ _ _ _ inb_S144x1280_S16x1280_96_0 y
    · exact weight_piece_right arg4 (harg4.unread x2) arg5 (harg5.unread x3) 5 (by norm_num) (by norm_num) 10 11 rfl rfl _ _ _ _ inb_S144x1280_S16x1280_80_0 y
    · exact weight_piece_mixed arg4 (harg4.unread x2) arg5 (harg5.unread x3) 4 (by norm_num) (by norm_num) 8 9 rfl rfl _ _ _ _ inb_S144x1280_S16x1280_64_0 y
    · exact weight_piece_left arg4 (harg4.unread x2) arg5 (harg5.unread x3) 3 (by norm_num) (by norm_num) 6 7 rfl rfl _ _ _ _ inb_S144x1280_S16x1280_48_0 y
    · exact weight_piece_left arg4 (harg4.unread x2) arg5 (harg5.unread x3) 2 (by norm_num) (by norm_num) 4 5 rfl rfl _ _ _ _ inb_S144x1280_S16x1280_32_0 y
    · exact weight_piece_left arg4 (harg4.unread x2) arg5 (harg5.unread x3) 1 (by norm_num) (by norm_num) 2 3 rfl rfl _ _ _ _ inb_S144x1280_S16x1280_16_0 y
    · exact weight_piece_left arg4 (harg4.unread x2) arg5 (harg5.unread x3) 0 (by norm_num) (by norm_num) 0 1 rfl rfl _ _ _ _ inb_S144x1280_S16x1280_0_0 y
  rw [harg4.read_unread, harg5.read_unread] at hp
  funext y
  refine View.canon_apply_of_pieces _ _ hp.mem y ?_
  have hy0 : (y 0).val < 144 := (y 0).isLt
  unfold kernelRun0_A.sl.HS1_9
  dsimp only
  obtain h | h | h | h | h | h | h | h | h : (y 0).val / 16 = 0 ∨ (y 0).val / 16 = 1 ∨ (y 0).val / 16 = 2 ∨ (y 0).val / 16 = 3 ∨ (y 0).val / 16 = 4 ∨ (y 0).val / 16 = 5 ∨ (y 0).val / 16 = 6 ∨ (y 0).val / 16 = 7 ∨ (y 0).val / 16 = 8 := by omega
  · exact ⟨_, (.tail _ (.tail _ (.tail _ (.tail _ (.tail _ (.tail _ (.tail _ (.tail _ (.head _))))))))), weight_mem 0 inb_S144x1280_S16x1280_0_0 y (by omega) (by omega)⟩
  · exact ⟨_, (.tail _ (.tail _ (.tail _ (.tail _ (.tail _ (.tail _ (.tail _ (.head _)))))))), weight_mem 1 inb_S144x1280_S16x1280_16_0 y (by omega) (by omega)⟩
  · exact ⟨_, (.tail _ (.tail _ (.tail _ (.tail _ (.tail _ (.tail _ (.head _))))))), weight_mem 2 inb_S144x1280_S16x1280_32_0 y (by omega) (by omega)⟩
  · exact ⟨_, (.tail _ (.tail _ (.tail _ (.tail _ (.tail _ (.head _)))))), weight_mem 3 inb_S144x1280_S16x1280_48_0 y (by omega) (by omega)⟩
  · exact ⟨_, (.tail _ (.tail _ (.tail _ (.tail _ (.head _))))), weight_mem 4 inb_S144x1280_S16x1280_64_0 y (by omega) (by omega)⟩
  · exact ⟨_, (.tail _ (.tail _ (.tail _ (.head _)))), weight_mem 5 inb_S144x1280_S16x1280_80_0 y (by omega) (by omega)⟩
  · exact ⟨_, (.tail _ (.tail _ (.head _))), weight_mem 6 inb_S144x1280_S16x1280_96_0 y (by omega) (by omega)⟩
  · exact ⟨_, (.tail _ (.head _)), weight_mem 7 inb_S144x1280_S16x1280_112_0 y (by omega) (by omega)⟩
  · exact ⟨_, (.head _), weight_mem 8 inb_S144x1280_S16x1280_128_0 y (by omega) (by omega)⟩

/-! ## The bias: each half's nine levels summed -/

def biasAt (x4 : Vec Ideal S18x640 .f32) (j : Fin 1280) : EReal :=
  if h : j.val < 640 then ∑ g : Fin 9, x4 (ix2 (n0 := 18) (n1 := 640) ⟨g.val, by omega⟩ ⟨j.val, h⟩)
  else ∑ g : Fin 9, x4 (ix2 (n0 := 18) (n1 := 640) ⟨9 + g.val, by omega⟩ ⟨j.val - 640, by omega⟩)

def biasOf (x4 : Vec Ideal S18x640 .f32) : Vec Ideal S1x1280 .f32 := fun i => biasAt x4 (i 1)

theorem load_bias (arg6 : Memref sig .tc .vmem S18x640 .f32) (X : BufTy.Contents (Elt Ideal) arg6.view.ty)
    (o : Nat) (ho : o ≤ 9) (inb : ∀ a, (![o, 0] : Fin 2 → Nat) a + S9x640.size a ≤ S18x640.size a) (g : Fin 9) (j : Fin 640) :
    View.readAt (Elt Ideal) arg6.view (Rect.unit (s := S18x640) ![o, 0] S9x640.size inb).toLoadRect X (ix2 (n0 := 9) (n1 := 640) g j)
      = arg6.view.read (Elt Ideal) X (ix2 (n0 := 18) (n1 := 640) ⟨o + g.val, by omega⟩ j) := by
  rw [View.readAt_apply]
  congr 1
  funext a
  apply Fin.ext
  fin_cases a
  · show o + 1 * g.val = o + g.val
    omega
  · show 0 + 1 * j.val = j.val
    omega

theorem k0_pay24_apply (v : Vec Ideal S9x640 .f32) (z : Fin 1) (j : Fin 640) : k0_pay24 v (ix2 z j) = ∑ g : Fin 9, v (ix2 g j) := by
  unfold k0_pay24
  pointwise

theorem bias_canon (c : Dev nD) (arg6 : Memref sig .tc .vmem S18x640 .f32) (harg6 : arg6.IsWhole) (x4 : Vec Ideal S18x640 .f32) :
    View.canon (kernelRun0_A.sl.HS2_2 c arg6 harg6 x4) = biasOf x4 := by
  have hp : View.PiecesOf (biasOf (arg6.view.read (Elt Ideal) (harg6.unread x4))) (kernelRun0_A.sl.HS2_2 c arg6 harg6 x4) := by
    unfold kernelRun0_A.sl.HS2_2
    dsimp only
    refine ⟨fun y => ?_, fun y => ?_, trivial⟩
    · obtain ⟨z, j, rfl⟩ : ∃ (z : Fin 1) (j : Fin 640), y = ix2 z j := ⟨y 0, y 1, eq_ix2 y⟩
      refine (k0_pay24_apply _ z j).trans ?_
      have hj : ((Rect.unit (s := S1x1280) ![0, 640] ![1, 640] inb_S1x1280_S1x640_0_640).emb (ix2 z j) 1) = (⟨640 + j.val, by omega⟩ : Fin 1280) := by
        apply Fin.ext
        show 640 + 1 * j.val = 640 + j.val
        omega
      refine Eq.trans ?_ (congrArg (biasAt _) hj.symm)
      unfold biasAt
      rw [dif_neg (by simp)]
      refine Finset.sum_congr rfl fun g _ => ?_
      refine (load_bias arg6 _ 9 le_rfl inb_S18x640_S9x640_9_0 g j).trans ?_
      congr 1
      refine (ix2_inj _ _ _ _).2 ⟨rfl, Fin.ext ?_⟩
      show j.val = 640 + j.val - 640
      omega
    · obtain ⟨z, j, rfl⟩ : ∃ (z : Fin 1) (j : Fin 640), y = ix2 z j := ⟨y 0, y 1, eq_ix2 y⟩
      refine (k0_pay24_apply _ z j).trans ?_
      have hj : ((Rect.unit (s := S1x1280) ![0, 0] ![1, 640] inb_S1x1280_S1x640_0_0).emb (ix2 z j) 1) = (⟨j.val, by omega⟩ : Fin 1280) := by
        apply Fin.ext
        show 0 + 1 * j.val = j.val
        omega
      refine Eq.trans ?_ (congrArg (biasAt _) hj.symm)
      unfold biasAt
      rw [dif_pos j.isLt]
      refine Finset.sum_congr rfl fun g _ => ?_
      refine (load_bias arg6 _ 0 (by norm_num) inb_S18x640_S9x640_0_0 g j).trans ?_
      congr 1
      refine (ix2_inj _ _ _ _).2 ⟨Fin.ext ?_, rfl⟩
      show 0 + g.val = g.val
      omega
  rw [harg6.read_unread] at hp
  funext y
  refine View.canon_apply_of_pieces _ _ hp.mem y ?_
  have hy0 : (y 0).val < 1 := (y 0).isLt
  have hy1 : (y 1).val < 1280 := (y 1).isLt
  unfold kernelRun0_A.sl.HS2_2
  dsimp only
  by_cases h : (y 1).val < 640
  · refine ⟨_, .tail _ (.head _), ?_⟩
    rw [Rect.mem_set_unit]
    intro a
    fin_cases a
    · show 0 ≤ (y 0).val ∧ (y 0).val < 0 + 1
      omega
    · show 0 ≤ (y 1).val ∧ (y 1).val < 0 + 640
      omega
  · refine ⟨_, .head _, ?_⟩
    rw [Rect.mem_set_unit]
    intro a
    fin_cases a
    · show 0 ≤ (y 0).val ∧ (y 0).val < 0 + 1
      omega
    · show 640 ≤ (y 1).val ∧ (y 1).val < 640 + 640
      omega

end Cert.KernelIdeal.Work
-- ==== Proof.Point.lean ====
/-
  What one grid point computes: the first point fills the scratch buffers, every point writes its block
  of 1024 tokens.
-/
module
public import proofs.«01_k».proof.Proof.Trip
public import proofs.«01_k».proof.Proof.Init

@[expose] public section

noncomputable section

namespace Cert.KernelIdeal.Work

open Cert.KernelIdeal Cert.KernelIdeal.Gen Idealize.ShloMosaic Idealize.ShloMosaic.TcCoe Idealize.SL.Sem

/-- The projection of gathered rows: token `n`, column `j`. -/
def project (E : Vec Ideal S72x2x1024 .bf16) (W : Vec Ideal S144x1280 .bf16) (B : Vec Ideal S1x1280 .f32) (n : Fin 1024) (j : Fin 1280) : EReal :=
  (∑ q : Fin 144, E (ix3 (n0 := 72) (n1 := 2) (n2 := 1024) ⟨q.val / 2, by omega⟩ ⟨q.val % 2, by omega⟩ n) * W (ix2 q j)) + B (ix2 (n0 := 1) (n1 := 1280) 0 j)

/-- The block a grid point writes. -/
def blockOf (x0 : Vec Ideal S1x18x1024 .i32) (T : Vec Ideal S72x2x1024 .bf16) (W : Vec Ideal S144x1280 .bf16) (B : Vec Ideal S1x1280 .f32) : Vec Ideal S1x1024x1280 .bf16 :=
  fun i => project (rowsOf x0 T) W B (i 1) (i 2)

/-- The words of the row buffer, read as 144 rows of bf16. -/
theorem rows_apply (E : Vec Ideal S72x2x1024 .bf16) (q : Fin 144) (n : Fin 1024) :
    interleaveRows S144x1024
      (shapeCast S72x1024 (rowsOfParity 0 S72x1x1024 E bitcasts_S72x2x1024_w16_S72x1x1024_w32) shapeCasts_S72x1x1024_S72x1024)
      (shapeCast S72x1024 (rowsOfParity 1 S72x1x1024 E bitcasts_S72x2x1024_w16_S72x1x1024_w32) shapeCasts_S72x1x1024_S72x1024)
      bitcasts_S144x1024_w16_S72x1024_w32 (ix2 q n)
      = E (ix3 (n0 := 72) (n1 := 2) (n2 := 1024) ⟨q.val / 2, by omega⟩ ⟨q.val % 2, by omega⟩ n) := by
  have hh : ∀ (p : Fin 2) (r : Fin 72), shapeCast S72x1024 (rowsOfParity p S72x1x1024 E bitcasts_S72x2x1024_w16_S72x1x1024_w32) shapeCasts_S72x1x1024_S72x1024 (ix2 r n) = E (ix3 r p n) := by
    intro p r
    pointwise
  have e : ∀ x : S144x1024.Idx → EReal, x (ix2 q n)
      = rowsOfParity (⟨q.val % 2, by omega⟩ : Fin 2) S72x1024 x bitcasts_S144x1024_w16_S72x1024_w32 (ix2 ⟨q.val / 2, by omega⟩ n) := by
    intro x
    unfold rowsOfParity
    congr 1
    idx_ext
  rw [e (interleaveRows S144x1024 _ _ _), rowsOfParity_interleaveRows]
  obtain h | h : q.val % 2 = 0 ∨ q.val % 2 = 1 := by omega
  · rw [if_pos (Fin.ext h), hh]
    congr 1
    exact (ix3_inj _ _ _ _ _ _).2 ⟨rfl, Fin.ext h.symm, rfl⟩
  · rw [if_neg (fun e => by have := congrArg Fin.val e; simp only [h] at this; exact absurd this (by decide)), hh]
    congr 1
    exact (ix3_inj _ _ _ _ _ _).2 ⟨rfl, Fin.ext h.symm, rfl⟩

theorem pay4_apply (E : Vec Ideal S72x2x1024 .bf16) (W : Vec Ideal S144x1280 .bf16) (B : Vec Ideal S1x1280 .f32) (z : Fin 1) (n : Fin 1024) (j : Fin 1280) :
    k0_pay4 E W B (ix3 z n j) = project E W B n j := by
  unfold k0_pay4 project
  simp only [← rows_apply]
  generalize interleaveRows S144x1024 _ _ _ = R
  pointwise

theorem pay4_eq (E : Vec Ideal S72x2x1024 .bf16) (W : Vec Ideal S144x1280 .bf16) (B : Vec Ideal S1x1280 .f32) (y : S1x1024x1280.Idx) :
    k0_pay4 E W B y = project E W B (y 1) (y 2) := by
  obtain ⟨z, n, j, rfl⟩ : ∃ (z : Fin 1) (n : Fin 1024) (j : Fin 1280), y = ix3 z n j := ⟨y 0, y 1, y 2, eq_ix3 y⟩
  exact pay4_apply E W B z n j

/-- Stores over an untouched buffer, loaded whole. -/
theorem readCov_whole {sig : RefSig} {κ : Kind} {sp : Space} {S : Shape} {e : EltTy} {v : View sig κ sp S e}
    {off : Fin S.rank → Nat} (h : off = fun _ => 0) (inb : ∀ a, off a + S.size a ≤ S.size a) (L : List (View.Piece (Elt Ideal) S e)) :
    v.readCov L (Rect.unit off S.size inb).toLoadRect = View.canon L := by
  rw [View.readCov_eq_canon']
  exact View.ld_unit_zero h inb (View.canon L)

/-- A buffer that holds `X`, loaded whole. -/
theorem readAt_whole {sig : RefSig} {κ : Kind} {sp : Space} {S : Shape} {e : EltTy} {m : Memref sig κ sp S e} (hm : m.IsWhole)
    {off : Fin S.rank → Nat} (h : off = fun _ => 0) (inb : ∀ a, off a + S.size a ≤ S.size a) (X : S.Idx → Elt Ideal e) :
    View.readAt (Elt Ideal) m.view (Rect.unit off S.size inb).toLoadRect (hm.unread X) = X := by
  have e : View.readAt (Elt Ideal) m.view (Rect.unit off S.size inb).toLoadRect (hm.unread X) = View.ld X (Rect.unit off S.size inb) :=
    funext fun x => congrFun (hm.read_unread X) _
  rw [e]
  exact View.ld_unit_zero h inb X

/-- The row buffer after the loop, loaded whole. -/
theorem loop_read (c : Dev nD) (i : grid0.Coords) (arg2 : Memref sig .tc .vmem S1x18x1024 .i32) (harg2 : arg2.IsWhole) (arg3 : Memref sig .tc .vmem S18x8x1024 .bf16) (harg3 : arg3.IsWhole) (arg4 : Memref sig .tc .vmem S18x8x640 .fp8e4m3) (harg4 : arg4.IsWhole) (arg5 : Memref sig .tc .vmem S18x640 .f32) (harg5 : arg5.IsWhole) (arg6 : Memref sig .tc .vmem S18x640 .f32) (harg6 : arg6.IsWhole) (arg7 : Memref sig .tc .vmem S1x1024x1280 .bf16) (harg7 : arg7.IsWhole) (arg8 : Memref sig .tc .vmem S72x2x1024 .bf16) (harg8 : arg8.IsWhole) (arg9 : Memref sig .tc .vmem S144x1280 .bf16) (harg9 : arg9.IsWhole) (arg10 : Memref sig .tc .vmem S1x1280 .f32) (harg10 : arg10.IsWhole) (arg11 : Memref sig .tc .vmem S72x2x1024 .bf16) (harg11 : arg11.IsWhole)
    (X2 : BufTy.Contents (Elt Ideal) arg2.view.ty) (X8 : BufTy.Contents (Elt Ideal) arg8.view.ty) :
    arg11.view.readCov (pb_k0_t1 Variants.none c none i arg2 harg2 arg3 harg3 arg4 harg4 arg5 harg5 arg6 harg6 arg7 harg7 arg8 harg8 arg9 harg9 arg10 harg10 arg11 harg11 (iota Kind.tc S8x128 32 [0] iota_S8x128_d0_w32) X2 X8 k0_t1_loop.trips)
      (Rect.unit (s := S72x2x1024) ![0, 0, 0] S72x2x1024.size inb_S72x2x1024_S72x2x1024_0_0_0).toLoadRect
      = rowsOf (arg2.view.read (Elt Ideal) X2) (arg8.view.read (Elt Ideal) X8) := by
  rw [readCov_whole (by funext a; fin_cases a <;> rfl)]
  funext y
  exact loop_canon c i arg2 harg2 arg3 harg3 arg4 harg4 arg5 harg5 arg6 harg6 arg7 harg7 arg8 harg8 arg9 harg9 arg10 harg10 arg11 harg11 X2 X8 y

set_option maxHeartbeats 4000000 in
/-- A later point: the block from the scratch buffers it finds. -/
theorem out_B (c : Dev nD) (i : grid0.Coords) (arg2 : Memref sig .tc .vmem S1x18x1024 .i32) (harg2 : arg2.IsWhole) (arg3 : Memref sig .tc .vmem S18x8x1024 .bf16) (harg3 : arg3.IsWhole) (arg4 : Memref sig .tc .vmem S18x8x640 .fp8e4m3) (harg4 : arg4.IsWhole) (arg5 : Memref sig .tc .vmem S18x640 .f32) (harg5 : arg5.IsWhole) (arg6 : Memref sig .tc .vmem S18x640 .f32) (harg6 : arg6.IsWhole) (arg7 : Memref sig .tc .vmem S1x1024x1280 .bf16) (harg7 : arg7.IsWhole) (arg8 : Memref sig .tc .vmem S72x2x1024 .bf16) (harg8 : arg8.IsWhole) (arg9 : Memref sig .tc .vmem S144x1280 .bf16) (harg9 : arg9.IsWhole) (arg10 : Memref sig .tc .vmem S1x1280 .f32) (harg10 : arg10.IsWhole) (arg11 : Memref sig .tc .vmem S72x2x1024 .bf16) (harg11 : arg11.IsWhole) (hc0 : ¬ cond0_0 i)
    (x0 : Vec Ideal S1x18x1024 .i32) (x1 : Vec Ideal S18x8x1024 .bf16) (x2 : Vec Ideal S18x8x640 .fp8e4m3) (x3 : Vec Ideal S18x640 .f32) (x4 : Vec Ideal S18x640 .f32)
    (xs0 : Vec Ideal S72x2x1024 .bf16) (xs1 : Vec Ideal S144x1280 .bf16) (xs2 : Vec Ideal S1x1280 .f32) :
    out0_B_5 c i arg2 harg2 arg3 harg3 arg4 harg4 arg5 harg5 arg6 harg6 arg7 harg7 arg8 harg8 arg9 harg9 arg10 harg10 arg11 harg11 hc0 x0 x1 x2 x3 x4 xs0 xs1 xs2 = blockOf x0 xs0 xs1 xs2 := by
  unfold out0_B_5 kernelRun0_B
  dsimp only
  rw [View.read_writes_junk_eq_canon, View.canon_unit_zero (by funext a; fin_cases a <;> rfl)]
  funext y
  rw [pay4_eq]
  have hE := loop_read c i arg2 harg2 arg3 harg3 arg4 harg4 arg5 harg5 arg6 harg6 arg7 harg7 arg8 harg8 arg9 harg9 arg10 harg10 arg11 harg11 (harg2.unread x0) (harg8.unread xs0)
  rw [harg2.read_unread, harg8.read_unread] at hE
  have hW := readAt_whole harg9 (off := ![0, 0]) (by funext a; fin_cases a <;> rfl) inb_S144x1280_S144x1280_0_0 xs1
  have hB := readAt_whole harg10 (off := ![0, 0]) (by funext a; fin_cases a <;> rfl) inb_S1x1280_S1x1280_0_0 xs2
  exact congrFun (congrFun (congr (congr (congrArg project hE) hW) hB) (y 1)) (y 2)

set_option maxHeartbeats 4000000 in
/-- The first point: the block from the scratch buffers it fills. -/
theorem out_A (c : Dev nD) (i : grid0.Coords) (arg2 : Memref sig .tc .vmem S1x18x1024 .i32) (harg2 : arg2.IsWhole) (arg3 : Memref sig .tc .vmem S18x8x1024 .bf16) (harg3 : arg3.IsWhole) (arg4 : Memref sig .tc .vmem S18x8x640 .fp8e4m3) (harg4 : arg4.IsWhole) (arg5 : Memref sig .tc .vmem S18x640 .f32) (harg5 : arg5.IsWhole) (arg6 : Memref sig .tc .vmem S18x640 .f32) (harg6 : arg6.IsWhole) (arg7 : Memref sig .tc .vmem S1x1024x1280 .bf16) (harg7 : arg7.IsWhole) (arg8 : Memref sig .tc .vmem S72x2x1024 .bf16) (harg8 : arg8.IsWhole) (arg9 : Memref sig .tc .vmem S144x1280 .bf16) (harg9 : arg9.IsWhole) (arg10 : Memref sig .tc .vmem S1x1280 .f32) (harg10 : arg10.IsWhole) (arg11 : Memref sig .tc .vmem S72x2x1024 .bf16) (harg11 : arg11.IsWhole) (hc0 : cond0_0 i)
    (x0 : Vec Ideal S1x18x1024 .i32) (x1 : Vec Ideal S18x8x1024 .bf16) (x2 : Vec Ideal S18x8x640 .fp8e4m3) (x3 : Vec Ideal S18x640 .f32) (x4 : Vec Ideal S18x640 .f32) :
    out0_A_5 c i arg2 harg2 arg3 harg3 arg4 harg4 arg5 harg5 arg6 harg6 arg7 harg7 arg8 harg8 arg9 harg9 arg10 harg10 arg11 harg11 hc0 x0 x1 x2 x3 x4 = blockOf x0 (tableOf x1) (weightOf x2 x3) (biasOf x4) := by
  unfold out0_A_5 kernelRun0_A
  dsimp only
  rw [View.read_writes_junk_eq_canon, View.canon_unit_zero (by funext a; fin_cases a <;> rfl)]
  funext y
  rw [pay4_eq]
  have hE := loop_read c i arg2 harg2 arg3 harg3 arg4 harg4 arg5 harg5 arg6 harg6 arg7 harg7 arg8 harg8 arg9 harg9 arg10 harg10 arg11 harg11 (harg2.unread x0) (arg8.view.writes _ arg8.view.junk (kernelRun0_A.sl.HS0_9 c arg3 harg3 x1))
  rw [harg2.read_unread, View.read_writes_junk_eq_canon, table_canon] at hE
  have hW := (readCov_whole (v := arg9.view) (off := ![0, 0]) (by funext a; fin_cases a <;> rfl) inb_S144x1280_S144x1280_0_0 _).trans (weight_canon c arg4 harg4 arg5 harg5 x2 x3)
  have hB := (readCov_whole (v := arg10.view) (off := ![0, 0]) (by funext a; fin_cases a <;> rfl) inb_S1x1280_S1x1280_0_0 _).trans (bias_canon c arg6 harg6 x4)
  exact congrFun (congrFun (congr (congr (congrArg project hE) hW) hB) (y 1)) (y 2)

theorem table_A (c : Dev nD) (i : grid0.Coords) (arg2 : Memref sig .tc .vmem S1x18x1024 .i32) (harg2 : arg2.IsWhole) (arg3 : Memref sig .tc .vmem S18x8x1024 .bf16) (harg3 : arg3.IsWhole) (arg4 : Memref sig .tc .vmem S18x8x640 .fp8e4m3) (harg4 : arg4.IsWhole) (arg5 : Memref sig .tc .vmem S18x640 .f32) (harg5 : arg5.IsWhole) (arg6 : Memref sig .tc .vmem S18x640 .f32) (harg6 : arg6.IsWhole) (arg7 : Memref sig .tc .vmem S1x1024x1280 .bf16) (harg7 : arg7.IsWhole) (arg8 : Memref sig .tc .vmem S72x2x1024 .bf16) (harg8 : arg8.IsWhole) (arg9 : Memref sig .tc .vmem S144x1280 .bf16) (harg9 : arg9.IsWhole) (arg10 : Memref sig .tc .vmem S1x1280 .f32) (harg10 : arg10.IsWhole) (arg11 : Memref sig .tc .vmem S72x2x1024 .bf16) (harg11 : arg11.IsWhole) (hc0 : cond0_0 i)
    (x0 : Vec Ideal S1x18x1024 .i32) (x1 : Vec Ideal S18x8x1024 .bf16) (x2 : Vec Ideal S18x8x640 .fp8e4m3) (x3 : Vec Ideal S18x640 .f32) (x4 : Vec Ideal S18x640 .f32) :
    sout0_A_0 c i arg2 harg2 arg3 harg3 arg4 harg4 arg5 harg5 arg6 harg6 arg7 harg7 arg8 harg8 arg9 harg9 arg10 harg10 arg11 harg11 hc0 x0 x1 x2 x3 x4 = tableOf x1 := by
  unfold sout0_A_0 kernelRun0_A
  dsimp only
  rw [View.read_writes_junk_eq_canon, table_canon]

theorem weight_A (c : Dev nD) (i : grid0.Coords) (arg2 : Memref sig .tc .vmem S1x18x1024 .i32) (harg2 : arg2.IsWhole) (arg3 : Memref sig .tc .vmem S18x8x1024 .bf16) (harg3 : arg3.IsWhole) (arg4 : Memref sig .tc .vmem S18x8x640 .fp8e4m3) (harg4 : arg4.IsWhole) (arg5 : Memref sig .tc .vmem S18x640 .f32) (harg5 : arg5.IsWhole) (arg6 : Memref sig .tc .vmem S18x640 .f32) (harg6 : arg6.IsWhole) (arg7 : Memref sig .tc .vmem S1x1024x1280 .bf16) (harg7 : arg7.IsWhole) (arg8 : Memref sig .tc .vmem S72x2x1024 .bf16) (harg8 : arg8.IsWhole) (arg9 : Memref sig .tc .vmem S144x1280 .bf16) (harg9 : arg9.IsWhole) (arg10 : Memref sig .tc .vmem S1x1280 .f32) (harg10 : arg10.IsWhole) (arg11 : Memref sig .tc .vmem S72x2x1024 .bf16) (harg11 : arg11.IsWhole) (hc0 : cond0_0 i)
    (x0 : Vec Ideal S1x18x1024 .i32) (x1 : Vec Ideal S18x8x1024 .bf16) (x2 : Vec Ideal S18x8x640 .fp8e4m3) (x3 : Vec Ideal S18x640 .f32) (x4 : Vec Ideal S18x640 .f32) :
    sout0_A_1 c i arg2 harg2 arg3 harg3 arg4 harg4 arg5 harg5 arg6 harg6 arg7 harg7 arg8 harg8 arg9 harg9 arg10 harg10 arg11 harg11 hc0 x0 x1 x2 x3 x4 = weightOf x2 x3 := by
  unfold sout0_A_1 kernelRun0_A
  dsimp only
  rw [View.read_writes_junk_eq_canon, weight_canon]

theorem bias_A (c : Dev nD) (i : grid0.Coords) (arg2 : Memref sig .tc .vmem S1x18x1024 .i32) (harg2 : arg2.IsWhole) (arg3 : Memref sig .tc .vmem S18x8x1024 .bf16) (harg3 : arg3.IsWhole) (arg4 : Memref sig .tc .vmem S18x8x640 .fp8e4m3) (harg4 : arg4.IsWhole) (arg5 : Memref sig .tc .vmem S18x640 .f32) (harg5 : arg5.IsWhole) (arg6 : Memref sig .tc .vmem S18x640 .f32) (harg6 : arg6.IsWhole) (arg7 : Memref sig .tc .vmem S1x1024x1280 .bf16) (harg7 : arg7.IsWhole) (arg8 : Memref sig .tc .vmem S72x2x1024 .bf16) (harg8 : arg8.IsWhole) (arg9 : Memref sig .tc .vmem S144x1280 .bf16) (harg9 : arg9.IsWhole) (arg10 : Memref sig .tc .vmem S1x1280 .f32) (harg10 : arg10.IsWhole) (arg11 : Memref sig .tc .vmem S72x2x1024 .bf16) (harg11 : arg11.IsWhole) (hc0 : cond0_0 i)
    (x0 : Vec Ideal S1x18x1024 .i32) (x1 : Vec Ideal S18x8x1024 .bf16) (x2 : Vec Ideal S18x8x640 .fp8e4m3) (x3 : Vec Ideal S18x640 .f32) (x4 : Vec Ideal S18x640 .f32) :
    sout0_A_2 c i arg2 harg2 arg3 harg3 arg4 harg4 arg5 harg5 arg6 harg6 arg7 harg7 arg8 harg8 arg9 harg9 arg10 harg10 arg11 harg11 hc0 x0 x1 x2 x3 x4 = biasOf x4 := by
  unfold sout0_A_2 kernelRun0_A
  dsimp only
  rw [View.read_writes_junk_eq_canon, bias_canon]

end Cert.KernelIdeal.Work
-- ==== Proof.Array.lean ====
/-
  What the kernel's result array holds: the scratch buffers keep, at every grid point, what the first
  point stored, so every block is the projection of its own tokens' rows.
-/
module
public import proofs.«01_k».proof.Proof.Point

@[expose] public section

noncomputable section

namespace Cert.KernelIdeal.Work

open Cert.KernelIdeal Cert.KernelIdeal.Gen Idealize.ShloMosaic Idealize.ShloMosaic.TcCoe Idealize.SL.Sem

variable (m : (ℓ : Loc nD τ sig) → Buf (Elt Ideal) ℓ)

/-- The arguments, at literal shapes. -/
abbrev codesArg (c : Dev nD) : Vec Ideal S3x8192x18 .i32 := m ((c : Thread nD τ).loc main_arg0)
abbrev booksArg (c : Dev nD) : Vec Ideal S18x1024x8 .bf16 := m ((c : Thread nD τ).loc main_arg1)
abbrev projArg (c : Dev nD) : Vec Ideal S18x8x640 .fp8e4m3 := m ((c : Thread nD τ).loc main_arg2)
abbrev scaleArg (c : Dev nD) : Vec Ideal S18x640 .f32 := m ((c : Thread nD τ).loc main_arg3)
abbrev biasArg (c : Dev nD) : Vec Ideal S18x640 .f32 := m ((c : Thread nD τ).loc main_arg4)

/-- The codes as the region finds them: levels before tokens. -/
theorem V_codes (c : Dev nD) (b : Fin 3) (l : Fin 18) (n : Fin 8192) :
    V m c main_v0 (ix3 b l n) = codesArg m c (ix3 b n l) := by
  unfold V
  after_results
  pointwise

/-- The codebooks as the region finds them: the eight values of a row before the rows. -/
theorem V_books (c : Dev nD) (l : Fin 18) (k : Fin 8) (e : Fin 1024) :
    V m c main_v1 (ix3 l k e) = booksArg m c (ix3 l e k) := by
  unfold V
  after_results
  pointwise

theorem index_facts : ∀ t : Fin cfg0.N, win0_0.index t (0 : Fin 3) = t.val / 8 ∧ win0_0.index t (1 : Fin 3) = 0 ∧ win0_0.index t (2 : Fin 3) = t.val % 8
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Block `t` of the codes. -/
theorem codes_block (c : Dev nD) (t : Fin cfg0.N) (z : Fin 1) (l : Fin 18) (n : Fin 1024) :
    (iblk m c 0 t : Vec Ideal S1x18x1024 .i32) (ix3 z l n)
      = codesArg m c (ix3 ⟨t.val / 8, by have := t.isLt; have hN : cfg0.N = 24 := N_0; omega⟩ ⟨(t.val % 8) * 1024 + n.val, by omega⟩ l) := by
  rw [← V_codes]
  obtain ⟨e0, e1, e2, _⟩ := index_facts t
  show V m c main_v0 (((cfg0.win 0).blk t).view.emb (ix3 z l n)) = _
  congr 1
  funext a; apply Fin.ext
  match a with
  | ⟨0, _⟩ => show win0_0.index t (0 : Fin 3) * 1 + 1 * z.val = t.val / 8; omega
  | ⟨1, _⟩ => show win0_0.index t (1 : Fin 3) * 18 + 1 * l.val = l.val; omega
  | ⟨2, _⟩ => show win0_0.index t (2 : Fin 3) * 1024 + 1 * n.val = (t.val % 8) * 1024 + n.val; omega

theorem books_block (c : Dev nD) (t : Fin cfg0.N) : (iblk m c 1 t : Vec Ideal S18x8x1024 .bf16) = V m c main_v1 := by
  obtain ⟨_, _, _, e0, e1, e2, _⟩ := index_facts t
  funext y
  show V m c main_v1 (((cfg0.win 1).blk t).view.emb y) = _
  congr 1
  funext a; apply Fin.ext
  match a with
  | ⟨0, _⟩ => show win0_1.index t (0 : Fin 3) * 18 + 1 * (y 0).val = (y 0).val; omega
  | ⟨1, _⟩ => show win0_1.index t (1 : Fin 3) * 8 + 1 * (y 1).val = (y 1).val; omega
  | ⟨2, _⟩ => show win0_1.index t (2 : Fin 3) * 1024 + 1 * (y 2).val = (y 2).val; omega

theorem proj_block (c : Dev nD) (t : Fin cfg0.N) : (iblk m c 2 t : Vec Ideal S18x8x640 .fp8e4m3) = projArg m c := by
  obtain ⟨_, _, _, _, _, _, e0, e1, e2, _⟩ := index_facts t
  funext y
  show V m c main_arg2 (((cfg0.win 2).blk t).view.emb y) = _
  rw [V_main_arg2]
  congr 1
  funext a; apply Fin.ext
  match a with
  | ⟨0, _⟩ => show win0_2.index t (0 : Fin 3) * 18 + 1 * (y 0).val = (y 0).val; omega
  | ⟨1, _⟩ => show win0_2.index t (1 : Fin 3) * 8 + 1 * (y 1).val = (y 1).val; omega
  | ⟨2, _⟩ => show win0_2.index t (2 : Fin 3) * 640 + 1 * (y 2).val = (y 2).val; omega

theorem scale_block (c : Dev nD) (t : Fin cfg0.N) : (iblk m c 3 t : Vec Ideal S18x640 .f32) = scaleArg m c := by
  obtain ⟨_, _, _, _, _, _, _, _, _, e0, e1, _⟩ := index_facts t
  funext y
  show V m c main_arg3 (((cfg0.win 3).blk t).view.emb y) = _
  rw [V_main_arg3]
  congr 1
  funext a; apply Fin.ext
  match a with
  | ⟨0, _⟩ => show win0_3.index t (0 : Fin 2) * 18 + 1 * (y 0).val = (y 0).val; omega
  | ⟨1, _⟩ => show win0_3.index t (1 : Fin 2) * 640 + 1 * (y 1).val = (y 1).val; omega

theorem bias_block (c : Dev nD) (t : Fin cfg0.N) : (iblk m c 4 t : Vec Ideal S18x640 .f32) = biasArg m c := by
  obtain ⟨_, _, _, _, _, _, _, _, _, _, _, e0, e1⟩ := index_facts t
  funext y
  show V m c main_arg4 (((cfg0.win 4).blk t).view.emb y) = _
  rw [V_main_arg4]
  congr 1
  funext a; apply Fin.ext
  match a with
  | ⟨0, _⟩ => show win0_4.index t (0 : Fin 2) * 18 + 1 * (y 0).val = (y 0).val; omega
  | ⟨1, _⟩ => show win0_4.index t (1 : Fin 2) * 640 + 1 * (y 1).val = (y 1).val; omega

/-- What the staging buffer and the scratch buffers hold after point `t`. -/
abbrev stateAt (c : Dev nD) (t : Fin cfg0.N) :=
  (blockOf (iblk m c 0 t) (tableOf (V m c main_v1)) (weightOf (projArg m c) (scaleArg m c)) (biasOf (biasArg m c)),
    tableOf (V m c main_v1), weightOf (projArg m c) (scaleArg m c), biasOf (biasArg m c))

/-- The scratch buffers keep what the first point stored. -/
theorem state_eq (c : Dev nD) : ∀ (n : ℕ) (h : n < cfg0.N), outsAt0 m c n h = stateAt m c ⟨n, h⟩
  | 0, h => by
    refine (outsAt0_A m c ⟨0, h⟩ rfl).trans ?_
    rw [out_A, table_A, weight_A, bias_A, books_block, proj_block, scale_block, bias_block]
  | n + 1, h => by
    have hN : cfg0.N = 24 := N_0
    have hB : ¬(⟨n + 1, h⟩ : Fin cfg0.N).val % 24 = 0 := by dsimp only; omega
    refine (outsAt0_B m c ⟨n + 1, h⟩ hB).trans ?_
    rw [out_B]
    show (blockOf _ (outsAt0 m c n _).2.1 (outsAt0 m c n _).2.2.1 (outsAt0 m c n _).2.2.2, (outsAt0 m c n _).2.1, (outsAt0 m c n _).2.2.1, (outsAt0 m c n _).2.2.2) = _
    rw [state_eq c n]

/-- The kernel's result, an entry: batch `b`, token `n`, column `j`. -/
def kernelAt (codes : Vec Ideal S3x8192x18 .i32) (books : Vec Ideal S18x1024x8 .bf16) (proj : Vec Ideal S18x8x640 .fp8e4m3)
    (scale : Vec Ideal S18x640 .f32) (bias : Vec Ideal S18x640 .f32) (b : Fin 3) (n : Fin 8192) (j : Fin 1280) : EReal :=
  (∑ q : Fin 144, books (ix3 (n0 := 18) (n1 := 1024) (n2 := 8) ⟨q.val / 8, by omega⟩
      ⟨(codes (ix3 (n2 := 18) b n ⟨q.val / 8, by omega⟩)).toNat % 1024, Nat.mod_lt _ (by decide)⟩ ⟨q.val % 8, by omega⟩) * weightAt proj scale q j)
    + biasAt bias j

theorem result_eq (c : Dev nD) (b : Fin 3) (n : Fin 8192) (j : Fin 1280) :
    Value.G5 m c (ix3 b n j) = kernelAt (codesArg m c) (booksArg m c) (projArg m c) (scaleArg m c) (biasArg m c) b n j := by
  have hp : Value.pt5Of (ix3 b n j) = 8 * b.val + n.val / 1024 := by
    show 8 * (b.val / 1 - 0) + 1 * (n.val / 1024 - 0) + 1 * (j.val / 1280 - 0) = _
    omega
  have hN : cfg0.N = 24 := N_0
  have ht : 8 * b.val + n.val / 1024 < cfg0.N := by omega
  have hl : Value.loc5Of (ix3 b n j) = ix3 (n0 := 1) (n1 := 1024) (n2 := 1280) ⟨b.val % 1, by omega⟩ ⟨n.val % 1024, by omega⟩ j := by
    funext a; apply Fin.ext
    match a with
    | ⟨0, _⟩ => rfl
    | ⟨1, _⟩ => rfl
    | ⟨2, _⟩ => show j.val % 1280 = j.val; omega
  unfold Value.G5
  rw [dif_pos (by rw [hp]; exact ht), ← Value.outsAt0_sweep m c _ (by rw [hp]; exact ht), state_eq, hl]
  show project _ _ _ _ j = _
  unfold project kernelAt
  congr 1
  refine Finset.sum_congr rfl fun q _ => ?_
  congr 1
  refine Eq.trans ?_ (V_books m c _ _ _)
  refine congrArg (V m c main_v1) ((ix3_inj _ _ _ _ _ _).2 ⟨Fin.ext ?_, Fin.ext ?_, Fin.ext ?_⟩)
  · show q.val / 2 / 4 = q.val / 8
    omega
  · show (2 * (q.val / 2) + q.val % 2) % 8 = q.val % 8
    omega
  · refine congrArg (fun w : BitVec 32 => w.toNat % 1024) ?_
    refine (codes_block m c _ 0 _ _).trans (congrArg (codesArg m c) ((ix3_inj _ _ _ _ _ _).2 ⟨Fin.ext ?_, Fin.ext ?_, Fin.ext ?_⟩))
    · show Value.pt5Of (ix3 b n j) / 8 = b.val
      omega
    · show Value.pt5Of (ix3 b n j) % 8 * 1024 + n.val % 1024 = n.val
      omega
    · show q.val / 2 / 4 = q.val / 8
      omega

end Cert.KernelIdeal.Work
-- ==== Proof.Reference.lean ====
/-
  What the reference's result array holds.
-/
module
public import proofs.«01_k».proof.Defs
public import proofs.«01_k».proof.Proof.Gen.ReferenceIdeal.Frame
public import Idealize.ShloMosaic.Lib.Pipeline.ValueKit
public import Idealize.ShloMosaic.Lib.Claim
public import Idealize.ShloMosaic.Lib.Pointwise

@[expose] public section

noncomputable section

namespace Cert.ReferenceIdeal.Work

open Cert.ReferenceIdeal Cert.ReferenceIdeal.Gen Idealize.ShloMosaic Idealize.ShloMosaic.TcCoe Idealize.SL.Sem

variable (m : (ℓ : Loc nD τ sig) → Buf (Elt Ideal) ℓ)

/-- The arguments, at literal shapes. -/
abbrev codesArg (c : Dev nD) : Vec Ideal S3x8192x18 .i32 := m ((c : Thread nD τ).loc main_arg0)
abbrev booksArg (c : Dev nD) : Vec Ideal S18x1024x8 .bf16 := m ((c : Thread nD τ).loc main_arg1)
abbrev projArg (c : Dev nD) : Vec Ideal S18x8x640 .fp8e4m3 := m ((c : Thread nD τ).loc main_arg2)
abbrev scaleArg (c : Dev nD) : Vec Ideal S18x640 .f32 := m ((c : Thread nD τ).loc main_arg3)
abbrev biasArg (c : Dev nD) : Vec Ideal S18x640 .f32 := m ((c : Thread nD τ).loc main_arg4)

/-- The level and the code that each gathered row is read at. -/
def pairsOf (codes : Vec Ideal S3x8192x18 .i32) : Vec Ideal S3x8192x18x2 .i32 :=
  let level : Vec Ideal S1x1x18 .i32 := broadcastInDim S1x1x18 ![2] bcast_S18_S1x1x18_2 (iotaInDim S18 32 0)
  let level := select (cmpi .slt level (broadcastInDim S1x1x18 ![] bcast_S_S1x1x18 (constantI S_ 32 0#32)))
    (addi level (broadcastInDim S1x1x18 ![] bcast_S_S1x1x18 (constantI S_ 32 18#32))) level
  let code := select (cmpi .slt codes (broadcastInDim S3x8192x18 ![] bcast_S_S3x8192x18 (constantI S_ 32 0#32)))
    (addi codes (broadcastInDim S3x8192x18 ![] bcast_S_S3x8192x18 (constantI S_ 32 1024#32))) codes
  concatenate S3x8192x18x2 3
    [⟨S3x8192x18x1, broadcastInDim S3x8192x18x1 ![0, 1, 2] bcast_S3x8192x18_S3x8192x18x1_0_1_2
        (broadcastInDim S3x8192x18 ![0, 1, 2] bcast_S1x1x18_S3x8192x18_0_1_2 level)⟩,
      ⟨S3x8192x18x1, broadcastInDim S3x8192x18x1 ![0, 1, 2] bcast_S3x8192x18_S3x8192x18x1_0_1_2 code⟩]
    concatenates_S3x8192x18x1_S3x8192x18x1_S3x8192x18x2_d3

/-- The gathered rows. -/
def rowsOf (codes : Vec Ideal S3x8192x18 .i32) (books : Vec Ideal S18x1024x8 .bf16) : Vec Ideal S3x8192x18x8 .bf16 :=
  Host.gather gather_S18x1024x8_S3x8192x18x2_S3x8192x18x8_3_01_n_n_01_3_118 books (pairsOf codes)

/-- The projection of the rows, with the biases, as the host computes it. -/
def latentOf (E : Vec Ideal S3x8192x18x8 .bf16) (W : Vec Ideal S18x8x640 .bf16) (bias : Vec Ideal S18x640 .f32) : Vec Ideal S3x8192x1280 .bf16 :=
  let y : Vec Ideal S3x8192x2x640 .f32 := transpose S3x8192x2x640 [2, 3, 0, 1]
    (Host.dotGeneral (F := Ideal) (φ₁ := .bf16) (φ₂ := .bf16) dot_S2x72x640_S3x8192x2x72_S2x640x3x8192_1_3_2_01_0_2 none
      (shapeCast S2x72x640 W shapeCasts_S18x8x640_S2x72x640) (shapeCast S3x8192x2x72 E shapeCasts_S3x8192x18x8_S3x8192x2x72))
    transposes_S2x640x3x8192_S3x8192x2x640_2_3_0_1
  let s : Vec Ideal S2x640 .f32 := Host.reduceAdd (F := Ideal) (shapeCast S2x9x640 bias shapeCasts_S18x640_S2x9x640) (constant S_ .f32 0x00000000#32) reducesTo_S2x9x640_S2x640_d1 h_S_
  truncf (F := Ideal) .bf16 (shapeCast S3x8192x1280
    (addf y (broadcastInDim S3x8192x2x640 ![0, 1, 2, 3] bcast_S1x1x2x640_S3x8192x2x640_0_1_2_3 (broadcastInDim S1x1x2x640 ![2, 3] bcast_S2x640_S1x1x2x640_2_3 s)))
    shapeCasts_S3x8192x2x640_S3x8192x1280) bitsLt_bf16_f32

theorem V_rows (c : Dev nD) : V m c main_v17 = shapeCast S3x8192x2x72 (rowsOf (codesArg m c) (booksArg m c)) shapeCasts_S3x8192x18x8_S3x8192x2x72 := by
  show V0 m c (Proc.devRef .tc main_v17) = _
  unfold V0
  simp only [hostOps0, List.flatten_cons, List.flatten_nil, List.append_nil]
  after_results
  rfl

theorem tail_eq (c : Dev nD) :
    Pipeline.afterTail₀ cfgs (dats m) 0 (V0 m) [hostOps1] c main_v28
      = latentOf (rowsOf (codesArg m c) (booksArg m c)) ((dats m 0 c).arrAt 2 cfg0.N) (biasArg m c) := by
  unfold Pipeline.afterTail₀
  simp only [hostOps1, List.flatten_cons, List.flatten_nil, List.append_nil]
  after_results
  rw [Pipeline.withArrays_of_ne _ c (V0 m c) _ main_v17 (by exact (by decide : ∀ w, Pipeline.arrRef spec0 w ≠ main_v17)),
    Pipeline.withArrays_of_ne _ c (V0 m c) _ main_arg4 (by exact (by decide : ∀ w, Pipeline.arrRef spec0 w ≠ main_arg4))]
  rw [show V0 m c (Proc.devRef .tc main_v17) = _ from V_rows m c, show V0 m c (Proc.devRef .tc main_arg4) = _ from V_main_arg4 m c,
    show Pipeline.withArrays (cfgs 0).spec c (V0 m c) (fun w => (dats m 0 c).arrAt w (cfgs 0).N) (Proc.devRef .tc main_v18) = _ from
      Pipeline.withArrays_arr spec0 winFacts0.arr_inj c (V0 m c) (fun w => (dats m 0 c).arrAt w cfg0.N) 2]
  rfl

/-- A gathered value: level and code are read signed, and clamped to the codebooks. -/
theorem gather_apply (books : Vec Ideal S18x1024x8 .bf16) (P : Vec Ideal S3x8192x18x2 .i32) (b : Fin 3) (n : Fin 8192) (l : Fin 18) (k : Fin 8) :
    Host.gather gather_S18x1024x8_S3x8192x18x2_S3x8192x18x8_3_01_n_n_01_3_118 books P (ix4 b n l k)
      = books (ix3 (n0 := 18) (n1 := 1024) (n2 := 8) ⟨min (P (ix4 (n3 := 2) b n l 0)).toInt.toNat 17, by omega⟩ ⟨min (P (ix4 (n3 := 2) b n l 1)).toInt.toNat 1023, by omega⟩ k) := by
  unfold Host.gather
  congr 1
  funext a
  refine Fin.ext ?_
  show GatherDims.start _ (ix4 b n l k) P a + GatherDims.batchCoord _ (ix4 b n l k) a + GatherDims.offCoord _ (ix4 b n l k) a = _
  have hm : ∀ (a : Fin 3), a ∈ [0, 1] → a ∈ gather_S18x1024x8_S3x8192x18x2_S3x8192x18x8_3_01_n_n_01_3_118.startIndexMap := fun _ h => h
  have hs : ∀ (a : Fin 3) (h : a ∈ ([0, 1] : List (Fin 3))) (q : Fin 2), q.val = a.val →
      gather_S18x1024x8_S3x8192x18x2_S3x8192x18x8_3_01_n_n_01_3_118.siIdx (ix4 b n l k) ⟨List.idxOf a gather_S18x1024x8_S3x8192x18x2_S3x8192x18x8_3_01_n_n_01_3_118.startIndexMap, List.idxOf_lt_length_iff.2 (hm a h)⟩ = ix4 b n l q := by
    intro a h q hq
    funext x; refine Fin.ext ?_
    match x with
    | ⟨0, _⟩ => rfl
    | ⟨1, _⟩ => rfl
    | ⟨2, _⟩ => rfl
    | ⟨3, _⟩ =>
      refine Eq.trans ?_ hq.symm
      fin_cases h <;> rfl
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.batchCoord_eq_zero _ _ _ (fun h => by simp [gather_S18x1024x8_S3x8192x18x2_S3x8192x18x8_3_01_n_n_01_3_118] at h),
      GatherDims.offCoord_eq_zero _ _ _ (fun h => ((GatherDims.mem_sKept _ _).mp h).1 (by decide))]
    simp only [Nat.add_zero]
    unfold GatherDims.start
    rw [dif_pos (hm 0 (by decide)), hs 0 (by decide) 0 rfl]
    rfl
  · rw [GatherDims.batchCoord_eq_zero _ _ _ (fun h => by simp [gather_S18x1024x8_S3x8192x18x2_S3x8192x18x8_3_01_n_n_01_3_118] at h),
      GatherDims.offCoord_eq_zero _ _ _ (fun h => ((GatherDims.mem_sKept _ _).mp h).1 (by decide))]
    simp only [Nat.add_zero]
    unfold GatherDims.start
    rw [dif_pos (hm 1 (by decide)), hs 1 (by decide) 1 rfl]
    rfl
  · rw [GatherDims.batchCoord_eq_zero _ _ _ (fun h => by simp [gather_S18x1024x8_S3x8192x18x2_S3x8192x18x8_3_01_n_n_01_3_118] at h)]
    unfold GatherDims.start
    rw [dif_neg (by decide)]
    simp only [Nat.zero_add]
    rfl

/-- A word that names an entry: from 0 to 1023, or from -1024 to -1 and then counted from the end. -/
def Names (w : BitVec 32) : Prop := -1024 ≤ w.toInt ∧ w.toInt < 1024

/-- jnp's wrap of a negative index adds the codebook's extent: the word mod 1024. -/
theorem wrap_toNat (w : BitVec 32) (h : Names w) :
    (Scalar.select (IntOp.cmpi CmpIPredicate.slt w 0#32) (IntOp.addi w 1024#32) w).toInt = ((w.toNat % 1024 : ℕ) : ℤ) := by
  obtain ⟨h0, h1⟩ := h
  have hc := BitVec.toInt_eq_toNat_cond w
  have hw := w.isLt
  by_cases hn : w.toInt < 0
  · have e : w.slt 0#32 = true := by
      rw [BitVec.slt_eq_decide]
      exact decide_eq_true hn
    simp only [IntOp.cmpi, Scalar.select, IntOp.addi, e]
    show (w + 1024#32).toInt = _
    rw [BitVec.toInt_eq_toNat_cond, BitVec.toNat_add, show (1024#32).toNat = 1024 from rfl]
    split at hc <;> split <;> omega
  · have e : w.slt 0#32 = false := by
      rw [BitVec.slt_eq_decide]
      exact decide_eq_false hn
    simp only [IntOp.cmpi, Scalar.select, IntOp.addi, e]
    show w.toInt = _
    split at hc <;> omega

/-- The pair's level: not negative, so it stands. -/
theorem pairs_level (codes : Vec Ideal S3x8192x18 .i32) (b : Fin 3) (n : Fin 8192) (l : Fin 18) :
    pairsOf codes (ix4 (n3 := 2) b n l 0) = BitVec.ofNat 32 l.val := by
  unfold pairsOf
  pointwise
  have e : (BitVec.ofNat 32 l.val).slt 0#32 = false := by
    rw [BitVec.slt_eq_decide, BitVec.toInt_eq_toNat_of_lt (by rw [BitVec.toNat_ofNat]; omega)]
    exact decide_eq_false (by rw [BitVec.toNat_ofNat]; show ¬ (_ : ℤ) < 0; omega)
  simp [IntOp.cmpi, Scalar.select, e]

/-- The pair's code: wrapped when negative. -/
theorem pairs_code (codes : Vec Ideal S3x8192x18 .i32) (b : Fin 3) (n : Fin 8192) (l : Fin 18) (h : Names (codes (ix3 b n l))) :
    (pairsOf codes (ix4 (n3 := 2) b n l 1)).toInt = (((codes (ix3 b n l)).toNat % 1024 : ℕ) : ℤ) := by
  refine Eq.trans (congrArg BitVec.toInt ?_) (wrap_toNat _ h)
  unfold pairsOf
  pointwise

/-- The gathered rows under the precondition: the entry at the code mod 1024. -/
theorem rows_apply (codes : Vec Ideal S3x8192x18 .i32) (books : Vec Ideal S18x1024x8 .bf16) (b : Fin 3) (n : Fin 8192) (l : Fin 18) (k : Fin 8)
    (h : Names (codes (ix3 b n l))) :
    rowsOf codes books (ix4 b n l k) = books (ix3 l ⟨(codes (ix3 b n l)).toNat % 1024, Nat.mod_lt _ (by decide)⟩ k) := by
  refine (gather_apply books (pairsOf codes) b n l k).trans (congrArg books ((ix3_inj _ _ _ _ _ _).2 ⟨Fin.ext ?_, Fin.ext ?_, rfl⟩))
  · show min (pairsOf codes (ix4 (n3 := 2) b n l 0)).toInt.toNat 17 = l.val
    rw [pairs_level, BitVec.toInt_eq_toNat_of_lt (by rw [BitVec.toNat_ofNat]; omega), BitVec.toNat_ofNat]
    omega
  · show min (pairsOf codes (ix4 (n3 := 2) b n l 1)).toInt.toNat 1023 = (codes (ix3 b n l)).toNat % 1024
    rw [pairs_code _ _ _ _ h, Int.toNat_natCast]
    omega

/-- An entry of the result: half `j / 640` of the levels projects onto column `j`. -/
theorem latent_apply (E : Vec Ideal S3x8192x18x8 .bf16) (W : Vec Ideal S18x8x640 .bf16) (bias : Vec Ideal S18x640 .f32) (b : Fin 3) (n : Fin 8192) (j : Fin 1280) :
    latentOf E W bias (ix3 b n j)
      = (∑ x : Fin 72, W (ix3 (n0 := 18) (n1 := 8) (n2 := 640) ⟨j.val / 640 * 9 + x.val / 8, by omega⟩ ⟨x.val % 8, by omega⟩ ⟨j.val % 640, by omega⟩)
            * E (ix4 (n2 := 18) (n3 := 8) b n ⟨j.val / 640 * 9 + x.val / 8, by omega⟩ ⟨x.val % 8, by omega⟩))
        + ∑ x : Fin 9, bias (ix2 (n0 := 18) (n1 := 640) ⟨j.val / 640 * 9 + x.val, by omega⟩ ⟨j.val % 640, by omega⟩) := by
  unfold latentOf
  pointwise

theorem index_facts : ∀ t : Fin cfg0.N, win0_0.index t (0 : Fin 3) = 0 ∧ win0_0.index t (1 : Fin 3) = 0 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0 :=
  (by decide +kernel : ∀ t : Fin grid0.N, _)

/-- The weights: codes times scales. -/
def weightsOf (proj : Vec Ideal S18x8x640 .fp8e4m3) (scale : Vec Ideal S18x640 .f32) : Vec Ideal S18x8x640 .bf16 :=
  fun i => proj i * scale (ix2 (n0 := 18) (n1 := 640) (i 0) (i 2))

theorem out_eq (x0 : Vec Ideal S18x8x640 .fp8e4m3) (x1 : Vec Ideal S18x640 .f32) : out0_2 x0 x1 = weightsOf x0 x1 := by
  unfold out0_2
  rw [View.canon_unit_zero (by funext a; fin_cases a <;> rfl), View.ld_unit_zero (by funext a; fin_cases a <;> rfl), View.ld_unit_zero (by funext a; fin_cases a <;> rfl)]
  funext i
  obtain ⟨l, k, d, rfl⟩ : ∃ (l : Fin 18) (k : Fin 8) (d : Fin 640), i = ix3 l k d := ⟨i 0, i 1, i 2, eq_ix3 i⟩
  show _ = x0 (ix3 l k d) * x1 (ix2 l d)
  unfold k0_pay1
  pointwise

theorem proj_block (c : Dev nD) (t : Fin cfg0.N) : (iblk m c 0 t : Vec Ideal S18x8x640 .fp8e4m3) = projArg m c := by
  obtain ⟨e0, e1, e2, _⟩ := index_facts t
  funext y
  show V m c main_arg2 (((cfg0.win 0).blk t).view.emb y) = _
  rw [V_main_arg2]
  congr 1
  funext a; apply Fin.ext
  match a with
  | ⟨0, _⟩ => show win0_0.index t (0 : Fin 3) * 18 + 1 * (y 0).val = (y 0).val; omega
  | ⟨1, _⟩ => show win0_0.index t (1 : Fin 3) * 8 + 1 * (y 1).val = (y 1).val; omega
  | ⟨2, _⟩ => show win0_0.index t (2 : Fin 3) * 640 + 1 * (y 2).val = (y 2).val; omega

theorem scale_block (c : Dev nD) (t : Fin cfg0.N) : (iblk m c 1 t : Vec Ideal S18x640 .f32) = scaleArg m c := by
  obtain ⟨_, _, _, e0, e1, _⟩ := index_facts t
  funext y
  show V m c main_arg3 (((cfg0.win 1).blk t).view.emb y) = _
  rw [V_main_arg3]
  congr 1
  funext a; apply Fin.ext
  match a with
  | ⟨0, _⟩ => show win0_1.index t (0 : Fin 2) * 18 + 1 * (y 0).val = (y 0).val; omega
  | ⟨1, _⟩ => show win0_1.index t (1 : Fin 2) * 640 + 1 * (y 1).val = (y 1).val; omega

/-- The weights array after the reference's region. -/
theorem weights_eq (c : Dev nD) : (dats m 0 c).arrAt 2 cfg0.N = weightsOf (projArg m c) (scaleArg m c) := by
  have he : ∀ (t : Fin cfg0.N) (y : S18x8x640.Idx), ((cfg0.win 2).blk t).view.emb y = y := by
    intro t y
    obtain ⟨_, _, _, _, _, e0, e1, e2⟩ := index_facts t
    funext a; apply Fin.ext
    match a with
    | ⟨0, _⟩ => show win0_2.index t (0 : Fin 3) * 18 + 1 * (y 0).val = (y 0).val; omega
    | ⟨1, _⟩ => show win0_2.index t (1 : Fin 3) * 8 + 1 * (y 1).val = (y 1).val; omega
    | ⟨2, _⟩ => show win0_2.index t (2 : Fin 3) * 640 + 1 * (y 2).val = (y 2).val; omega
  refine (dats m 0 c).arrAt_eq_of_cover 2 (weightsOf (projArg m c) (scaleArg m c)) (fun t _ => ?_) fun i => ?_
  · show (cfg0.win 2).cut (grid0.coords t) ((dats m 0 c).after 2 t) = _
    rw [after0_2, proj_block, scale_block, out_eq]
    funext y
    exact congrArg (weightsOf (projArg m c) (scaleArg m c)) (he t y).symm
  · have h0 : ∃ t : Fin cfg0.N, (cfg0.win 2).flush t = true := ⟨⟨0, by decide⟩, by decide +kernel⟩
    obtain ⟨t, ht⟩ := h0
    exact ⟨t, ht, by rw [← he t i]; exact View.emb_mem_set _ _⟩

end Cert.ReferenceIdeal.Work
-- ==== Proof.Equation.lean ====
/-
  The equation: where the codes name entries of their codebooks, the kernel's entry is the reference's.

  The kernel multiplies a token's 144 row values (18 levels of 8) with a 144 by 1280 matrix that is zero
  where a level and a column belong to different halves; the reference multiplies each half of the levels
  with its own 72 by 640 matrix. The products with zero vanish, and the others are the reference's.
-/
module
public import proofs.«01_k».proof.Proof.Array
public import proofs.«01_k».proof.Proof.Reference
public import proofs.«01_k».proof.Proof.Gen.Pre_codes_in_range

@[expose] public section

noncomputable section

namespace Cert.Work

open Idealize.ShloMosaic Idealize.ShloMosaic.TcCoe Idealize.SL.Sem
open Cert.KernelIdeal (S3x8192x18 S18x1024x8 S18x8x640 S18x640 S3x8192x1280)

variable (codes : Vec Ideal S3x8192x18 .i32) (books : Vec Ideal S18x1024x8 .bf16) (proj : Vec Ideal S18x8x640 .fp8e4m3)
  (scale : Vec Ideal S18x640 .f32) (bias : Vec Ideal S18x640 .f32)

/-- Every code names an entry of its codebook. -/
def InRange : Prop := ∀ i, Cert.ReferenceIdeal.Work.Names (codes i)

/-- A word between -1024 and 1023, compared signed. -/
theorem names_of_between (w : BitVec 32) (e : BitVec.ofBool ((BitVec.ofInt 32 (-1024)).sle w) &&& BitVec.ofBool (w.slt 1024#32) = 1#1) :
    Cert.ReferenceIdeal.Work.Names w := by
  have e' : ∀ p q : Bool, BitVec.ofBool p &&& BitVec.ofBool q = 1#1 → (p && q) = true := by decide
  have e' := e' _ _ e
  rw [Bool.and_eq_true, BitVec.sle_eq_decide, BitVec.slt_eq_decide, decide_eq_true_iff, decide_eq_true_iff] at e'
  exact e'

/-- The precondition says so. -/
theorem inRange_of_pre (h : Cert.Pre_codes_in_range.fn (F := Ideal) codes books proj scale bias = fun _ => 1#1) : InRange codes :=
  fun i => names_of_between _ (congrFun h i)

/-- One product: level `l`, value `k` of the level's row, column `d` of the level's half. -/
theorem product_eq (h : InRange codes) (b : Fin 3) (n : Fin 8192) (l : Fin 18) (k : Fin 8) (d : Fin 640) :
    books (ix3 (n0 := 18) (n1 := 1024) (n2 := 8) l ⟨(codes (ix3 b n l)).toNat % 1024, Nat.mod_lt _ (by decide)⟩ k) * Cert.KernelIdeal.Work.levelProd proj scale l k d
      = Cert.ReferenceIdeal.Work.weightsOf proj scale (ix3 l k d) * Cert.ReferenceIdeal.Work.rowsOf codes books (ix4 b n l k) := by
  rw [Cert.ReferenceIdeal.Work.rows_apply codes books b n l k (h _), mul_comm]
  rfl

theorem entry_eq (h : InRange codes) (b : Fin 3) (n : Fin 8192) (j : Fin 1280) :
    Cert.KernelIdeal.Work.kernelAt codes books proj scale bias b n j
      = Cert.ReferenceIdeal.Work.latentOf (Cert.ReferenceIdeal.Work.rowsOf codes books) (Cert.ReferenceIdeal.Work.weightsOf proj scale) bias (ix3 b n j) := by
  rw [Cert.ReferenceIdeal.Work.latent_apply]
  unfold Cert.KernelIdeal.Work.kernelAt
  rw [Fin.sum_univ_two_halves 72 72 rfl]
  by_cases hj : j.val < 640
  · have e0 : j.val / 640 = 0 := by omega
    have e1 : j.val % 640 = j.val := by omega
    rw [Finset.sum_eq_zero (s := Finset.univ (α := Fin 72)) (f := fun k : Fin 72 => _ * Cert.KernelIdeal.Work.weightAt proj scale ⟨72 + k.val, _⟩ j) (fun x _ => by
      unfold Cert.KernelIdeal.Work.weightAt
      rw [dif_pos hj, if_neg (show ¬ 72 + x.val < 72 by omega), mul_zero]), add_zero]
    congr 1
    · refine Finset.sum_congr rfl fun x _ => ?_
      unfold Cert.KernelIdeal.Work.weightAt
      rw [dif_pos hj, if_pos (show x.val < 72 from x.isLt), product_eq codes books proj scale h]
      simp only [e0, e1, Nat.zero_mul, Nat.zero_add]
    · unfold Cert.KernelIdeal.Work.biasAt
      rw [dif_pos hj]
      simp only [e0, e1, Nat.zero_mul, Nat.zero_add]
  · have e0 : j.val / 640 = 1 := by omega
    have e1 : j.val % 640 = j.val - 640 := by omega
    rw [Finset.sum_eq_zero (s := Finset.univ (α := Fin 72)) (f := fun k : Fin 72 => _ * Cert.KernelIdeal.Work.weightAt proj scale ⟨k.val, _⟩ j) (fun x _ => by
      unfold Cert.KernelIdeal.Work.weightAt
      rw [dif_neg hj, if_pos (show x.val < 72 from x.isLt), mul_zero]), zero_add]
    congr 1
    · refine Finset.sum_congr rfl fun x _ => ?_
      unfold Cert.KernelIdeal.Work.weightAt
      have e2 : (72 + x.val) / 8 = 9 + x.val / 8 := by omega
      have e3 : (72 + x.val) % 8 = x.val % 8 := by omega
      rw [dif_neg hj, if_neg (show ¬ 72 + x.val < 72 by omega), product_eq codes books proj scale h]
      simp only [e0, e1, e2, e3, Nat.one_mul]
    · unfold Cert.KernelIdeal.Work.biasAt
      rw [dif_neg hj]
      simp only [e0, e1, Nat.one_mul]

end Cert.Work
-- ==== Proof.Algebraic.lean ====
/-
  The value claim: at the extended reals the kernel's result array and the reference's agree.
-/
module
public import proofs.«01_k».proof.Proof.Equation

@[expose] public section

noncomputable section

open Idealize.ShloMosaic Idealize.ShloMosaic.TcCoe Idealize.SL.Sem

namespace Cert.ReferenceIdeal.Work

open Cert.ReferenceIdeal Cert.ReferenceIdeal.Gen

variable (m : (ℓ : Loc nD τ sig) → Buf (Elt Ideal) ℓ) (ρ : Dev nD → PrngReg)

/-- The reference's run: its result, the arguments unchanged. -/
theorem run : θ_run defs (onTc (τ := τ) (main (F := Ideal))) ⟨m, fun _ => 0, ρ⟩ fun r => ∀ c : Dev nD,
      r.2.mem ((c.tc : Thread nD τ).loc main_v28) = latentOf (rowsOf (codesArg m c) (booksArg m c)) (weightsOf (projArg m c) (scaleArg m c)) (biasArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v28 (Pipeline.mem_restRefs_of main_v28 (by decide) (by decide))).trans ((tail_eq m c).trans (by rw [weights_eq])),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c))),
      (((h c).2 main_arg4 (Pipeline.mem_restRefs_of main_arg4 (by decide) (by decide))).trans (W_main_arg4 m (dats m) c))⟩) (run_main m ρ)

end Cert.ReferenceIdeal.Work

namespace Cert.Proof

theorem algebraic : Cert.algebraic_KernelIdeal_ReferenceIdeal_pre_codes_in_range := by
  intro m g m' g' hpre hargs
  refine ⟨fun c => Cert.KernelIdeal.Value.G5 m c, Cert.KernelIdeal.Value.run m g, ?_⟩
  refine (θ_run _ _ _).mono (fun r h c => ⟨(h c).1.trans ?_, (h c).2⟩) (Cert.ReferenceIdeal.Work.run m' g')
  obtain ⟨a0, a1, a2, a3, a4⟩ := hargs c
  have hr := Cert.Work.inRange_of_pre _ _ _ _ _ (hpre c)
  funext i
  obtain ⟨b, n, j, rfl⟩ : ∃ (b : Fin 3) (n : Fin 8192) (j : Fin 1280), i = ix3 b n j := ⟨i 0, i 1, i 2, eq_ix3 i⟩
  refine Eq.trans ?_ ((Cert.KernelIdeal.Work.result_eq m c b n j).trans (Cert.Work.entry_eq _ _ _ _ _ hr b n j)).symm
  unfold Cert.ReferenceIdeal.Work.codesArg Cert.ReferenceIdeal.Work.booksArg Cert.ReferenceIdeal.Work.projArg Cert.ReferenceIdeal.Work.scaleArg Cert.ReferenceIdeal.Work.biasArg
  rw [a0, a1, a2, a3, a4]

end Cert.Proof
-- ==== Proof.lean ====
module

public import proofs.«01_k».proof.Defs
public import proofs.«01_k».proof.Proof.Claims
public import proofs.«01_k».proof.Proof.Algebraic
public import proofs.«01_k».proof.Proof.Gen.KernelIdeal.Value
public import proofs.«01_k».proof.Proof.Gen.Pre_codes_in_range

@[expose] public section

noncomputable section

namespace Cert.Proof

theorem claim : Cert.Claim :=
  ⟨Cert.Kernel.Gen.facts, Cert.KernelIdeal.Gen.facts, Cert.ReferenceIdeal.Gen.facts, Cert.Pre_codes_in_range.Gen.facts,
    frame_kernel, frame_kernelIdeal, fun m ρ _ => frame_kernelIdeal m ρ trivial,
    frame_referenceIdeal, fun m ρ _ => frame_referenceIdeal m ρ trivial, preserves, algebraic⟩

end Cert.Proof

end
